-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete [hPre_complete : Cert.Pre_complete.Facts] (m : (ℓ : Loc Cert.KernelIdeal.nD Cert.KernelIdeal.τ Cert.KernelIdeal.sig) → Buf (Elt Ideal) ℓ) : Prop :=
  ∀ c : Dev Cert.KernelIdeal.nD,
    (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete [hPre_complete : Cert.Pre_complete.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_complete [hKernelIdeal : Cert.KernelIdeal.Facts] [hPre_complete : Cert.Pre_complete.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_complete [hReferenceIdeal : Cert.ReferenceIdeal.Facts] [hPre_complete : Cert.Pre_complete.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "slope_log2e" .f32 0x3F13BB63#32 (((2 / 5) * (Real.log 2)⁻¹ : ℝ) : EReal)

def algebraic_KernelIdeal_ReferenceIdeal_pre_complete [hKernelIdeal : Cert.KernelIdeal.Facts] [hReferenceIdeal : Cert.ReferenceIdeal.Facts] [hPre_complete : Cert.Pre_complete.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_complete : Cert.Pre_complete.Facts),
    quiescent_Kernel (hKernel := hKernel)
    ∧ quiescent_KernelIdeal (hKernelIdeal := hKernelIdeal)
    ∧ quiescent_KernelIdeal_pre_complete (hKernelIdeal := hKernelIdeal) (hPre_complete := hPre_complete)
    ∧ quiescent_ReferenceIdeal (hReferenceIdeal := hReferenceIdeal)
    ∧ quiescent_ReferenceIdeal_pre_complete (hReferenceIdeal := hReferenceIdeal) (hPre_complete := hPre_complete)
    ∧ preserves_Kernel_KernelIdeal
    ∧ algebraic_KernelIdeal_ReferenceIdeal_pre_complete (hKernelIdeal := hKernelIdeal) (hReferenceIdeal := hReferenceIdeal) (hPre_complete := hPre_complete)
-- ==== Pre_complete.lean ====
abbrev S512x128x19 : Shape := ⟨3, ![512, 128, 19]⟩
abbrev S128x512 : Shape := ⟨2, ![128, 512]⟩
abbrev S512 : Shape := ⟨1, ![512]⟩
abbrev S8x64 : Shape := ⟨2, ![8, 64]⟩
abbrev S512x512 : Shape := ⟨2, ![512, 512]⟩
abbrev S512x1 : Shape := ⟨2, ![512, 1]⟩
abbrev S1 : Shape := ⟨1, ![1]⟩
abbrev S2x361 : Shape := ⟨2, ![2, 361]⟩
abbrev S19 : Shape := ⟨1, ![19]⟩
abbrev S1x361 : Shape := ⟨2, ![1, 361]⟩
abbrev S361 : Shape := ⟨1, ![361]⟩
abbrev S361x1x1 : Shape := ⟨3, ![361, 1, 1]⟩
abbrev S1x19x1 : Shape := ⟨3, ![1, 19, 1]⟩
abbrev S361x19x1 : Shape := ⟨3, ![361, 19, 1]⟩
abbrev S1x1x19 : Shape := ⟨3, ![1, 1, 19]⟩
abbrev S361x1x19 : Shape := ⟨3, ![361, 1, 19]⟩
abbrev S_ : Shape := ⟨0, ![]⟩
abbrev S361x19x19 : Shape := ⟨3, ![361, 19, 19]⟩
abbrev S19x19 : Shape := ⟨2, ![19, 19]⟩

class Facts : Prop where
  slices_S2x361_S1x361_0_0 : S2x361.Slices ![0, 0] S1x361
  shapeCasts_S1x361_S361 : S1x361.ShapeCasts S361
  bcast_S361_S361x1x1_0 : S361.BroadcastsInDim S361x1x1 (![0] : Fin 1 → Fin S361x1x1.rank)
  bcast_S19_S1x19x1_1 : S19.BroadcastsInDim S1x19x1 (![1] : Fin 1 → Fin S1x19x1.rank)
  bcast_S361x1x1_S361x19x1_0_1_2 : S361x1x1.BroadcastsInDim S361x19x1 (![0, 1, 2] : Fin 3 → Fin S361x19x1.rank)
  bcast_S1x19x1_S361x19x1_0_1_2 : S1x19x1.BroadcastsInDim S361x19x1 (![0, 1, 2] : Fin 3 → Fin S361x19x1.rank)
  slices_S2x361_S1x361_1_0 : S2x361.Slices ![1, 0] S1x361
  bcast_S19_S1x1x19_2 : S19.BroadcastsInDim S1x1x19 (![2] : Fin 1 → Fin S1x1x19.rank)
  bcast_S361x1x1_S361x1x19_0_1_2 : S361x1x1.BroadcastsInDim S361x1x19 (![0, 1, 2] : Fin 3 → Fin S361x1x19.rank)
  bcast_S1x1x19_S361x1x19_0_1_2 : S1x1x19.BroadcastsInDim S361x1x19 (![0, 1, 2] : Fin 3 → Fin S361x1x19.rank)
  bcast_S_S512x128x19 : S_.BroadcastsInDim S512x128x19 (![] : Fin 0 → Fin S512x128x19.rank)
  reducesTo_S512x128x19_S_d0_1_2 : S512x128x19.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S8x64 : S_.BroadcastsInDim S8x64 (![] : Fin 0 → Fin S8x64.rank)
  reducesTo_S8x64_S_d0_1 : S8x64.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S512 : S_.BroadcastsInDim S512 (![] : Fin 0 → Fin S512.rank)
  reducesTo_S512_S_d0 : S512.ReducesTo [0] S_
  bcast_S361x19x1_S361x19x19_0_1_2 : S361x19x1.BroadcastsInDim S361x19x19 (![0, 1, 2] : Fin 3 → Fin S361x19x19.rank)
  bcast_S361x1x19_S361x19x19_0_1_2 : S361x1x19.BroadcastsInDim S361x19x19 (![0, 1, 2] : Fin 3 → Fin S361x19x19.rank)
  reducesTo_S361x19x19_S19x19_d0 : S361x19x19.ReducesTo [0] S19x19
  reducesTo_S19x19_S_d0_1 : S19x19.ReducesTo [0, 1] S_

variable [Facts]

def fn_part4 {F : FTy → Type} [FloatOps F] (main_arg12 : FVec F S512 .f32) (main_v7 : IVec S361x19x1 1) (main_v14 : IVec S361x1x19 1) (main_v18 : IVec S_ 1) (main_v22 : IVec S_ 1) (main_v26 : IVec S_ 1) (main_v30 : IVec S_ 1) (main_v34 : IVec S_ 1) (main_v38 : IVec S_ 1) (main_v42 : IVec S_ 1) (main_v46 : IVec S_ 1) (main_v50 : IVec S_ 1) (main_v53 : IVec S_ 1) (main_v56 : IVec S_ 1) (main_v59 : IVec S_ 1) (main_v62 : IVec S_ 1) (main_v65 : IVec S_ 1) (main_v66 : FVec F S512 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v67 : IVec S512 1 := cmpf .oeq main_arg12 main_v66
  let main_c_27 : IVec S_ 1 := constantI S_ 1 1#1
  let main_v68 : IVec S_ 1 := (fun x v => Host.reduce IntOp.andi x v reducesTo_S512_S_d0 h_S_) main_v67 main_c_27
  let main_v69 : IVec S361x19x19 1 := broadcastInDim S361x19x19 ![0, 1, 2] bcast_S361x19x1_S361x19x19_0_1_2 main_v7
  let main_v70 : IVec S361x19x19 1 := broadcastInDim S361x19x19 ![0, 1, 2] bcast_S361x1x19_S361x19x19_0_1_2 main_v14
  let main_v71 : IVec S361x19x19 1 := andi main_v69 main_v70
  let main_c_28 : IVec S_ 1 := constantI S_ 1 0#1
  let main_v72 : IVec S19x19 1 := (fun x v => Host.reduce IntOp.ori x v reducesTo_S361x19x19_S19x19_d0 h_S_) main_v71 main_c_28
  let main_c_29 : IVec S_ 1 := constantI S_ 1 1#1
  let main_v73 : IVec S_ 1 := (fun x v => Host.reduce IntOp.andi x v reducesTo_S19x19_S_d0_1 h_S_) main_v72 main_c_29
  (main_v18, main_v22, main_v26, main_v30, main_v34, main_v38, main_v42, main_v46, main_v50, main_v53, main_v56, main_v59, main_v62, main_v65, main_v68, main_v73)

def fn_part3 {F : FTy → Type} [FloatOps F] (main_arg4 : FVec F S512 .f32) (main_arg6 : FVec F S512 .f32) (main_arg8 : FVec F S512 .f32) (main_arg10 : FVec F S512 .f32) (main_arg12 : FVec F S512 .f32) (main_v7 : IVec S361x19x1 1) (main_v14 : IVec S361x1x19 1) (main_v18 : IVec S_ 1) (main_v22 : IVec S_ 1) (main_v26 : IVec S_ 1) (main_v30 : IVec S_ 1) (main_v34 : IVec S_ 1) (main_v38 : IVec S_ 1) (main_v42 : IVec S_ 1) (main_v46 : IVec S_ 1) (main_v50 : IVec S_ 1) (main_v52 : IVec S512 1) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_c_17 : IVec S_ 1 := constantI S_ 1 1#1
  let main_v53 : IVec S_ 1 := (fun x v => Host.reduce IntOp.andi x v reducesTo_S512_S_d0 h_S_) main_v52 main_c_17
  let main_cst_18 : FVec F S_ .f32 := constant S_ .f32 0x00000000#32
  let main_v54 : FVec F S512 .f32 := broadcastInDim S512 ![] bcast_S_S512 main_cst_18
  let main_v55 : IVec S512 1 := cmpf .oeq main_arg4 main_v54
  let main_c_19 : IVec S_ 1 := constantI S_ 1 1#1
  let main_v56 : IVec S_ 1 := (fun x v => Host.reduce IntOp.andi x v reducesTo_S512_S_d0 h_S_) main_v55 main_c_19
  let main_cst_20 : FVec F S_ .f32 := constant S_ .f32 0x00000000#32
  let main_v57 : FVec F S512 .f32 := broadcastInDim S512 ![] bcast_S_S512 main_cst_20
  let main_v58 : IVec S512 1 := cmpf .oeq main_arg6 main_v57
  let main_c_21 : IVec S_ 1 := constantI S_ 1 1#1
  let main_v59 : IVec S_ 1 := (fun x v => Host.reduce IntOp.andi x v reducesTo_S512_S_d0 h_S_) main_v58 main_c_21
  let main_cst_22 : FVec F S_ .f32 := constant S_ .f32 0x00000000#32
  let main_v60 : FVec F S512 .f32 := broadcastInDim S512 ![] bcast_S_S512 main_cst_22
  let main_v61 : IVec S512 1 := cmpf .oeq main_arg8 main_v60
  let main_c_23 : IVec S_ 1 := constantI S_ 1 1#1
  let main_v62 : IVec S_ 1 := (fun x v => Host.reduce IntOp.andi x v reducesTo_S512_S_d0 h_S_) main_v61 main_c_23
  let main_cst_24 : FVec F S_ .f32 := constant S_ .f32 0x00000000#32
  let main_v63 : FVec F S512 .f32 := broadcastInDim S512 ![] bcast_S_S512 main_cst_24
  let main_v64 : IVec S512 1 := cmpf .oeq main_arg10 main_v63
  let main_c_25 : IVec S_ 1 := constantI S_ 1 1#1
  let main_v65 : IVec S_ 1 := (fun x v => Host.reduce IntOp.andi x v reducesTo_S512_S_d0 h_S_) main_v64 main_c_25
  let main_cst_26 : FVec F S_ .f32 := constant S_ .f32 0x00000000#32
  let main_v66 : FVec F S512 .f32 := broadcastInDim S512 ![] bcast_S_S512 main_cst_26
  fn_part4 (F := F) main_arg12 main_v7 main_v14 main_v18 main_v22 main_v26 main_v30 main_v34 main_v38 main_v42 main_v46 main_v50 main_v53 main_v56 main_v59 main_v62 main_v65 main_v66

def fn_part2 {F : FTy → Type} [FloatOps F] (main_arg2 : FVec F S512 .f32) (main_arg4 : FVec F S512 .f32) (main_arg6 : FVec F S512 .f32) (main_arg8 : FVec F S512 .f32) (main_arg10 : FVec F S512 .f32) (main_arg11 : FVec F S8x64 .f32) (main_arg12 : FVec F S512 .f32) (main_arg13 : FVec F S512x1 .f32) (main_arg14 : FVec F S1 .f32) (main_v7 : IVec S361x19x1 1) (main_v14 : IVec S361x1x19 1) (main_v18 : IVec S_ 1) (main_v22 : IVec S_ 1) (main_v26 : IVec S_ 1) (main_v30 : IVec S_ 1) (main_v34 : IVec S_ 1) (main_v35 : FVec F S512x512 .f32) (main_v36 : FVec F S512x512 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v37 : IVec S512x512 1 := cmpf .olt main_v35 main_v36
  let main_c_9 : IVec S_ 1 := constantI S_ 1 1#1
  let main_v38 : IVec S_ 1 := (fun x v => Host.reduce IntOp.andi x v reducesTo_S512x512_S_d0_1 h_S_) main_v37 main_c_9
  let main_v39 : FVec F S8x64 .f32 := Host.absf main_arg11
  let main_cst_10 : FVec F S_ .f32 := constant S_ .f32 0x7F800000#32
  let main_v40 : FVec F S8x64 .f32 := broadcastInDim S8x64 ![] bcast_S_S8x64 main_cst_10
  let main_v41 : IVec S8x64 1 := cmpf .olt main_v39 main_v40
  let main_c_11 : IVec S_ 1 := constantI S_ 1 1#1
  let main_v42 : IVec S_ 1 := (fun x v => Host.reduce IntOp.andi x v reducesTo_S8x64_S_d0_1 h_S_) main_v41 main_c_11
  let main_v43 : FVec F S512x1 .f32 := Host.absf main_arg13
  let main_cst_12 : FVec F S_ .f32 := constant S_ .f32 0x7F800000#32
  let main_v44 : FVec F S512x1 .f32 := broadcastInDim S512x1 ![] bcast_S_S512x1 main_cst_12
  let main_v45 : IVec S512x1 1 := cmpf .olt main_v43 main_v44
  let main_c_13 : IVec S_ 1 := constantI S_ 1 1#1
  let main_v46 : IVec S_ 1 := (fun x v => Host.reduce IntOp.andi x v reducesTo_S512x1_S_d0_1 h_S_) main_v45 main_c_13
  let main_v47 : FVec F S1 .f32 := Host.absf main_arg14
  let main_cst_14 : FVec F S_ .f32 := constant S_ .f32 0x7F800000#32
  let main_v48 : FVec F S1 .f32 := broadcastInDim S1 ![] bcast_S_S1 main_cst_14
  let main_v49 : IVec S1 1 := cmpf .olt main_v47 main_v48
  let main_c_15 : IVec S_ 1 := constantI S_ 1 1#1
  let main_v50 : IVec S_ 1 := (fun x v => Host.reduce IntOp.andi x v reducesTo_S1_S_d0 h_S_) main_v49 main_c_15
  let main_cst_16 : FVec F S_ .f32 := constant S_ .f32 0x00000000#32
  let main_v51 : FVec F S512 .f32 := broadcastInDim S512 ![] bcast_S_S512 main_cst_16
  let main_v52 : IVec S512 1 := cmpf .oeq main_arg2 main_v51
  fn_part3 (F := F) main_arg4 main_arg6 main_arg8 main_arg10 main_arg12 main_v7 main_v14 main_v18 main_v22 main_v26 main_v30 main_v34 main_v38 main_v42 main_v46 main_v50 main_v52

def fn_part1 {F : FTy → Type} [FloatOps F] (main_arg2 : FVec F S512 .f32) (main_arg3 : FVec F S128x512 .f32) (main_arg4 : FVec F S512 .f32) (main_arg5 : FVec F S8x64 .f32) (main_arg6 : FVec F S512 .f32) (main_arg7 : FVec F S512x512 .f32) (main_arg8 : FVec F S512 .f32) (main_arg9 : FVec F S512x512 .f32) (main_arg10 : FVec F S512 .f32) (main_arg11 : FVec F S8x64 .f32) (main_arg12 : FVec F S512 .f32) (main_arg13 : FVec F S512x1 .f32) (main_arg14 : FVec F S1 .f32) (main_v7 : IVec S361x19x1 1) (main_v14 : IVec S361x1x19 1) (main_v18 : IVec S_ 1) (main_v19 : FVec F S128x512 .f32) (main_v20 : FVec F S128x512 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v21 : IVec S128x512 1 := cmpf .olt main_v19 main_v20
  let main_c_1 : IVec S_ 1 := constantI S_ 1 1#1
  let main_v22 : IVec S_ 1 := (fun x v => Host.reduce IntOp.andi x v reducesTo_S128x512_S_d0_1 h_S_) main_v21 main_c_1
  let main_v23 : FVec F S128x512 .f32 := Host.absf main_arg3
  let main_cst_2 : FVec F S_ .f32 := constant S_ .f32 0x7F800000#32
  let main_v24 : FVec F S128x512 .f32 := broadcastInDim S128x512 ![] bcast_S_S128x512 main_cst_2
  let main_v25 : IVec S128x512 1 := cmpf .olt main_v23 main_v24
  let main_c_3 : IVec S_ 1 := constantI S_ 1 1#1
  let main_v26 : IVec S_ 1 := (fun x v => Host.reduce IntOp.andi x v reducesTo_S128x512_S_d0_1 h_S_) main_v25 main_c_3
  let main_v27 : FVec F S8x64 .f32 := Host.absf main_arg5
  let main_cst_4 : FVec F S_ .f32 := constant S_ .f32 0x7F800000#32
  let main_v28 : FVec F S8x64 .f32 := broadcastInDim S8x64 ![] bcast_S_S8x64 main_cst_4
  let main_v29 : IVec S8x64 1 := cmpf .olt main_v27 main_v28
  let main_c_5 : IVec S_ 1 := constantI S_ 1 1#1
  let main_v30 : IVec S_ 1 := (fun x v => Host.reduce IntOp.andi x v reducesTo_S8x64_S_d0_1 h_S_) main_v29 main_c_5
  let main_v31 : FVec F S512x512 .f32 := Host.absf main_arg7
  let main_cst_6 : FVec F S_ .f32 := constant S_ .f32 0x7F800000#32
  let main_v32 : FVec F S512x512 .f32 := broadcastInDim S512x512 ![] bcast_S_S512x512 main_cst_6
  let main_v33 : IVec S512x512 1 := cmpf .olt main_v31 main_v32
  let main_c_7 : IVec S_ 1 := constantI S_ 1 1#1
  let main_v34 : IVec S_ 1 := (fun x v => Host.reduce IntOp.andi x v reducesTo_S512x512_S_d0_1 h_S_) main_v33 main_c_7
  let main_v35 : FVec F S512x512 .f32 := Host.absf main_arg9
  let main_cst_8 : FVec F S_ .f32 := constant S_ .f32 0x7F800000#32
  let main_v36 : FVec F S512x512 .f32 := broadcastInDim S512x512 ![] bcast_S_S512x512 main_cst_8
  fn_part2 (F := F) main_arg2 main_arg4 main_arg6 main_arg8 main_arg10 main_arg11 main_arg12 main_arg13 main_arg14 main_v7 main_v14 main_v18 main_v22 main_v26 main_v30 main_v34 main_v35 main_v36

def fn {F : FTy → Type} [FloatOps F] (main_arg0 : FVec F S512x128x19 .f32) (main_arg1 : FVec F S128x512 .f32) (main_arg2 : FVec F S512 .f32) (main_arg3 : FVec F S128x512 .f32) (main_arg4 : FVec F S512 .f32) (main_arg5 : FVec F S8x64 .f32) (main_arg6 : FVec F S512 .f32) (main_arg7 : FVec F S512x512 .f32) (main_arg8 : FVec F S512 .f32) (main_arg9 : FVec F S512x512 .f32) (main_arg10 : FVec F S512 .f32) (main_arg11 : FVec F S8x64 .f32) (main_arg12 : FVec F S512 .f32) (main_arg13 : FVec F S512x1 .f32) (main_arg14 : FVec F S1 .f32) (main_arg15 : FVec F S512x1 .f32) (main_arg16 : FVec F S1 .f32) (main_arg17 : IVec S2x361 32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v0 : IVec S19 32 := iotaInDim S19 32 0
  let main_v1 : IVec S1x361 32 := (extractStridedSlice S1x361 ![0, 0] · slices_S2x361_S1x361_0_0) main_arg17
  let main_v2 : IVec S361 32 := shapeCast S361 main_v1 shapeCasts_S1x361_S361
  let main_v3 : IVec S361x1x1 32 := broadcastInDim S361x1x1 ![0] bcast_S361_S361x1x1_0 main_v2
  let main_v4 : IVec S1x19x1 32 := broadcastInDim S1x19x1 ![1] bcast_S19_S1x19x1_1 main_v0
  let main_v5 : IVec S361x19x1 32 := broadcastInDim S361x19x1 ![0, 1, 2] bcast_S361x1x1_S361x19x1_0_1_2 main_v3
  let main_v6 : IVec S361x19x1 32 := broadcastInDim S361x19x1 ![0, 1, 2] bcast_S1x19x1_S361x19x1_0_1_2 main_v4
  let main_v7 : IVec S361x19x1 1 := cmpi .eq main_v5 main_v6
  let main_v8 : IVec S1x361 32 := (extractStridedSlice S1x361 ![1, 0] · slices_S2x361_S1x361_1_0) main_arg17
  let main_v9 : IVec S361 32 := shapeCast S361 main_v8 shapeCasts_S1x361_S361
  let main_v10 : IVec S361x1x1 32 := broadcastInDim S361x1x1 ![0] bcast_S361_S361x1x1_0 main_v9
  let main_v11 : IVec S1x1x19 32 := broadcastInDim S1x1x19 ![2] bcast_S19_S1x1x19_2 main_v0
  let main_v12 : IVec S361x1x19 32 := broadcastInDim S361x1x19 ![0, 1, 2] bcast_S361x1x1_S361x1x19_0_1_2 main_v10
  let main_v13 : IVec S361x1x19 32 := broadcastInDim S361x1x19 ![0, 1, 2] bcast_S1x1x19_S361x1x19_0_1_2 main_v11
  let main_v14 : IVec S361x1x19 1 := cmpi .eq main_v12 main_v13
  let main_v15 : FVec F S512x128x19 .f32 := Host.absf main_arg0
  let main_cst : FVec F S_ .f32 := constant S_ .f32 0x7F800000#32
  let main_v16 : FVec F S512x128x19 .f32 := broadcastInDim S512x128x19 ![] bcast_S_S512x128x19 main_cst
  let main_v17 : IVec S512x128x19 1 := cmpf .olt main_v15 main_v16
  let main_c : IVec S_ 1 := constantI S_ 1 1#1
  let main_v18 : IVec S_ 1 := (fun x v => Host.reduce IntOp.andi x v reducesTo_S512x128x19_S_d0_1_2 h_S_) main_v17 main_c
  let main_v19 : FVec F S128x512 .f32 := Host.absf main_arg1
  let main_cst_0 : FVec F S_ .f32 := constant S_ .f32 0x7F800000#32
  let main_v20 : FVec F S128x512 .f32 := broadcastInDim S128x512 ![] bcast_S_S128x512 main_cst_0
  fn_part1 (F := F) main_arg2 main_arg3 main_arg4 main_arg5 main_arg6 main_arg7 main_arg8 main_arg9 main_arg10 main_arg11 main_arg12 main_arg13 main_arg14 main_v7 main_v14 main_v18 main_v19 main_v20
-- ==== Kernel.lean ====
abbrev S512x128x19 : Shape := ⟨3, ![512, 128, 19]⟩
abbrev S128x512 : Shape := ⟨2, ![128, 512]⟩
abbrev S512 : Shape := ⟨1, ![512]⟩
abbrev S8x64 : Shape := ⟨2, ![8, 64]⟩
abbrev S512x512 : Shape := ⟨2, ![512, 512]⟩
abbrev S512x1 : Shape := ⟨2, ![512, 1]⟩
abbrev S1 : Shape := ⟨1, ![1]⟩
abbrev S2x361 : Shape := ⟨2, ![2, 361]⟩
abbrev S512x19x128 : Shape := ⟨3, ![512, 19, 128]⟩
abbrev S_ : Shape := ⟨0, ![]⟩
abbrev S512x24x128 : Shape := ⟨3, ![512, 24, 128]⟩
abbrev S12288x128 : Shape := ⟨2, ![12288, 128]⟩
abbrev S8x8 : Shape := ⟨2, ![8, 8]⟩
abbrev S64x1 : Shape := ⟨2, ![64, 1]⟩
abbrev S8x1x8x1 : Shape := ⟨4, ![8, 1, 8, 1]⟩
abbrev S1x64x1x1 : Shape := ⟨4, ![1, 64, 1, 1]⟩
abbrev S8x64x8x1 : Shape := ⟨4, ![8, 64, 8, 1]⟩
abbrev S512x8 : Shape := ⟨2, ![512, 8]⟩
abbrev S8x512 : Shape := ⟨2, ![8, 512]⟩
abbrev S384 : Shape := ⟨1, ![384]⟩
abbrev S384x1 : Shape := ⟨2, ![384, 1]⟩
abbrev S384x128 : Shape := ⟨2, ![384, 128]⟩
abbrev S16x1 : Shape := ⟨2, ![16, 1]⟩
abbrev S1x24x1 : Shape := ⟨3, ![1, 24, 1]⟩
abbrev S384x512 : Shape := ⟨2, ![384, 512]⟩
abbrev S384x8 : Shape := ⟨2, ![384, 8]⟩
abbrev S16x24x1x512 : Shape := ⟨4, ![16, 24, 1, 512]⟩
abbrev S16x1x24x512 : Shape := ⟨4, ![16, 1, 24, 512]⟩
abbrev S16x24x24x512 : Shape := ⟨4, ![16, 24, 24, 512]⟩
abbrev S9216x512 : Shape := ⟨2, ![9216, 512]⟩
abbrev S9216x8 : Shape := ⟨2, ![9216, 8]⟩
abbrev S16x24x24x8 : Shape := ⟨4, ![16, 24, 24, 8]⟩
abbrev S16x1x24x8 : Shape := ⟨4, ![16, 1, 24, 8]⟩
abbrev S16x24x512 : Shape := ⟨3, ![16, 24, 512]⟩
abbrev S16x24x8x512 : Shape := ⟨4, ![16, 24, 8, 512]⟩
abbrev S16x24x1x64 : Shape := ⟨4, ![16, 24, 1, 64]⟩
abbrev S16x24x64 : Shape := ⟨3, ![16, 24, 64]⟩
abbrev S16x24x1 : Shape := ⟨3, ![16, 24, 1]⟩
abbrev S16x24x8x1 : Shape := ⟨4, ![16, 24, 8, 1]⟩
abbrev S16x1x1 : Shape := ⟨3, ![16, 1, 1]⟩
abbrev S16x512 : Shape := ⟨2, ![16, 512]⟩
abbrev S1x1 : Shape := ⟨2, ![1, 1]⟩

abbrev nBuf : Space → Nat
  | .hbm => 87
  | .vmem => 14
  | .smem => 0
  | _ => 0

abbrev bufTy : (tb : Table) → Fin (tcTables nBuf tb) → BufTy
  | .hbm, ⟨0, _⟩ => ⟨S512x128x19, .f32⟩
  | .hbm, ⟨1, _⟩ => ⟨S128x512, .f32⟩
  | .hbm, ⟨2, _⟩ => ⟨S512, .f32⟩
  | .hbm, ⟨3, _⟩ => ⟨S128x512, .f32⟩
  | .hbm, ⟨4, _⟩ => ⟨S512, .f32⟩
  | .hbm, ⟨5, _⟩ => ⟨S8x64, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S8x64, .f32⟩
  | .hbm, ⟨12, _⟩ => ⟨S512, .f32⟩
  | .hbm, ⟨13, _⟩ => ⟨S512x1, .f32⟩
  | .hbm, ⟨14, _⟩ => ⟨S1, .f32⟩
  | .hbm, ⟨15, _⟩ => ⟨S512x1, .f32⟩
  | .hbm, ⟨16, _⟩ => ⟨S1, .f32⟩
  | .hbm, ⟨17, _⟩ => ⟨S2x361, .i32⟩
  | .hbm, ⟨18, _⟩ => ⟨S512x19x128, .f32⟩
  | .hbm, ⟨19, _⟩ => ⟨S_, .i32⟩
  | .hbm, ⟨20, _⟩ => ⟨S_, .f32⟩
  | .hbm, ⟨21, _⟩ => ⟨S512x24x128, .f32⟩
  | .hbm, ⟨22, _⟩ => ⟨S12288x128, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S_, .f32⟩
  | .hbm, ⟨31, _⟩ => ⟨S64x1, .f32⟩
  | .hbm, ⟨32, _⟩ => ⟨S8x1x8x1, .f32⟩
  | .hbm, ⟨33, _⟩ => ⟨S1x64x1x1, .f32⟩
  | .hbm, ⟨34, _⟩ => ⟨S8x64x8x1, .f32⟩
  | .hbm, ⟨35, _⟩ => ⟨S8x64x8x1, .f32⟩
  | .hbm, ⟨36, _⟩ => ⟨S8x64x8x1, .f32⟩
  | .hbm, ⟨37, _⟩ => ⟨S512x8, .f32⟩
  | .hbm, ⟨38, _⟩ => ⟨S512x1, .f32⟩
  | .hbm, ⟨39, _⟩ => ⟨S512x8, .f32⟩
  | .hbm, ⟨40, _⟩ => ⟨S512x8, .f32⟩
  | .hbm, ⟨41, _⟩ => ⟨S512x1, .f32⟩
  | .hbm, ⟨42, _⟩ => ⟨S512x8, .f32⟩
  | .hbm, ⟨43, _⟩ => ⟨S512x8, .f32⟩
  | .hbm, ⟨44, _⟩ => ⟨S8x512, .f32⟩
  | .hbm, ⟨45, _⟩ => ⟨S384, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S384, .i32⟩
  | .hbm, ⟨53, _⟩ => ⟨S384, .i32⟩
  | .hbm, ⟨54, _⟩ => ⟨S_, .i32⟩
  | .hbm, ⟨55, _⟩ => ⟨S384, .i32⟩
  | .hbm, ⟨56, _⟩ => ⟨S384, .i1⟩
  | .hbm, ⟨57, _⟩ => ⟨S_, .i32⟩
  | .hbm, ⟨58, _⟩ => ⟨S384, .i32⟩
  | .hbm, ⟨59, _⟩ => ⟨S384, .i1⟩
  | .hbm, ⟨60, _⟩ => ⟨S_, .i32⟩
  | .hbm, ⟨61, _⟩ => ⟨S_, .i1⟩
  | .hbm, ⟨62, _⟩ => ⟨S384, .i1⟩
  | .hbm, ⟨63, _⟩ => ⟨S384, .i1⟩
  | .hbm, ⟨64, _⟩ => ⟨S384, .i1⟩
  | .hbm, ⟨65, _⟩ => ⟨S384, .i32⟩
  | .hbm, ⟨66, _⟩ => ⟨S384, .i32⟩
  | .hbm, ⟨67, _⟩ => ⟨S384, .i32⟩
  | .hbm, ⟨68, _⟩ => ⟨S_, .i32⟩
  | .hbm, ⟨69, _⟩ => ⟨S384, .i32⟩
  | .hbm, ⟨70, _⟩ => ⟨S384, .i1⟩
  | .hbm, ⟨71, _⟩ => ⟨S_, .f32⟩
  | .hbm, ⟨72, _⟩ => ⟨S_, .f32⟩
  | .hbm, ⟨73, _⟩ => ⟨S384, .f32⟩
  | .hbm, ⟨74, _⟩ => ⟨S384, .f32⟩
  | .hbm, ⟨75, _⟩ => ⟨S384, .f32⟩
  | .hbm, ⟨76, _⟩ => ⟨S384, .f32⟩
  | .hbm, ⟨77, _⟩ => ⟨S384x1, .f32⟩
  | .hbm, ⟨78, _⟩ => ⟨S128x512, .bf16⟩
  | .hbm, ⟨79, _⟩ => ⟨S128x512, .bf16⟩
  | .hbm, ⟨80, _⟩ => ⟨S512x512, .bf16⟩
  | .hbm, ⟨81, _⟩ => ⟨S512x512, .bf16⟩
  | .hbm, ⟨82, _⟩ => ⟨S512x1, .f32⟩
  | .hbm, ⟨83, _⟩ => ⟨S1x1, .f32⟩
  | .hbm, ⟨84, _⟩ => ⟨S512x1, .f32⟩
  | .hbm, ⟨85, _⟩ => ⟨S512x1, .f32⟩
  | .hbm, ⟨86, _⟩ => ⟨S512, .f32⟩
  | .local _ .vmem, ⟨0, _⟩ => ⟨S384x128, .f32⟩
  | .local _ .vmem, ⟨1, _⟩ => ⟨S384x128, .f32⟩
  | .local _ .vmem, ⟨2, _⟩ => ⟨S128x512, .bf16⟩
  | .local _ .vmem, ⟨3, _⟩ => ⟨S128x512, .bf16⟩
  | .local _ .vmem, ⟨4, _⟩ => ⟨S512x8, .f32⟩
  | .local _ .vmem, ⟨5, _⟩ => ⟨S512x512, .bf16⟩
  | .local _ .vmem, ⟨6, _⟩ => ⟨S512x512, .bf16⟩
  | .local _ .vmem, ⟨7, _⟩ => ⟨S512x8, .f32⟩
  | .local _ .vmem, ⟨8, _⟩ => ⟨S8x512, .f32⟩
  | .local _ .vmem, ⟨9, _⟩ => ⟨S384x1, .f32⟩
  | .local _ .vmem, ⟨10, _⟩ => ⟨S512x1, .f32⟩
  | .local _ .vmem, ⟨11, _⟩ => ⟨S512x1, .f32⟩
  | .local _ .vmem, ⟨12, _⟩ => ⟨S16x1, .f32⟩
  | .local _ .vmem, ⟨13, _⟩ => ⟨S16x1, .f32⟩
  | _, _ => ⟨S512x128x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v19 : Ref sig .tc := ⟨.hbm, 67, rfl⟩
abbrev main_c_2 : Ref sig .tc := ⟨.hbm, 68, rfl⟩
abbrev main_v20 : Ref sig .tc := ⟨.hbm, 69, rfl⟩
abbrev main_v21 : Ref sig .tc := ⟨.hbm, 70, rfl⟩
abbrev main_cst_3 : Ref sig .tc := ⟨.hbm, 71, rfl⟩
abbrev main_cst_4 : Ref sig .tc := ⟨.hbm, 72, rfl⟩
abbrev main_call3_v0 : Ref sig .tc := ⟨.hbm, 73, rfl⟩
abbrev main_call3_v1 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | "slope_log2e" => some (((2 / 5) * (Real.log 2)⁻¹ : ℝ) : EReal)
  | _ => none
-- ==== ReferenceIdeal.lean ====
abbrev S512x128x19 : Shape := ⟨3, ![512, 128, 19]⟩
abbrev S128x512 : Shape := ⟨2, ![128, 512]⟩
abbrev S512 : Shape := ⟨1, ![512]⟩
abbrev S8x64 : Shape := ⟨2, ![8, 64]⟩
abbrev S512x512 : Shape := ⟨2, ![512, 512]⟩
abbrev S512x1 : Shape := ⟨2, ![512, 1]⟩
abbrev S1 : Shape := ⟨1, ![1]⟩
abbrev S2x361 : Shape := ⟨2, ![2, 361]⟩
abbrev S1x361 : Shape := ⟨2, ![1, 361]⟩
abbrev S361 : Shape := ⟨1, ![361]⟩
abbrev S512x19x128 : Shape := ⟨3, ![512, 19, 128]⟩
abbrev S512x19x512 : Shape := ⟨3, ![512, 19, 512]⟩
abbrev S1x1x512 : Shape := ⟨3, ![1, 1, 512]⟩
abbrev S512x19x8x64 : Shape := ⟨4, ![512, 19, 8, 64]⟩
abbrev S_ : Shape := ⟨0, ![]⟩
abbrev S361x1 : Shape := ⟨2, ![361, 1]⟩
abbrev S1x1 : Shape := ⟨2, ![1, 1]⟩
abbrev S512x361x8x64 : Shape := ⟨4, ![512, 361, 8, 64]⟩
abbrev S1x1x8x64 : Shape := ⟨4, ![1, 1, 8, 64]⟩
abbrev S512x361x8 : Shape := ⟨3, ![512, 361, 8]⟩
abbrev S19 : Shape := ⟨1, ![19]⟩
abbrev S19x1 : Shape := ⟨2, ![19, 1]⟩
abbrev S19x361 : Shape := ⟨2, ![19, 361]⟩
abbrev S1x19x361x1 : Shape := ⟨4, ![1, 19, 361, 1]⟩
abbrev S512x1x361x8 : Shape := ⟨4, ![512, 1, 361, 8]⟩
abbrev S512x19x361x8 : Shape := ⟨4, ![512, 19, 361, 8]⟩
abbrev S512x19x8 : Shape := ⟨3, ![512, 19, 8]⟩
abbrev S512x361x8x1 : Shape := ⟨4, ![512, 361, 8, 1]⟩
abbrev S1x19x361x1x1 : Shape := ⟨5, ![1, 19, 361, 1, 1]⟩
abbrev S512x1x361x8x64 : Shape := ⟨5, ![512, 1, 361, 8, 64]⟩
abbrev S512x19x361x8x64 : Shape := ⟨5, ![512, 19, 361, 8, 64]⟩
abbrev S512x19x1 : Shape := ⟨3, ![512, 19, 1]⟩
abbrev S1x1x1 : Shape := ⟨3, ![1, 1, 1]⟩
abbrev S512x1x1 : Shape := ⟨3, ![512, 1, 1]⟩

abbrev nBuf : Space → Nat
  | .hbm => 411
  | .vmem => 0
  | .smem => 0
  | _ => 0

abbrev hbmTy0_0 (i : Nat) : BufTy := match i % 128 with
  | 0 => ⟨S512x128x19, .f32⟩
  | 1 => ⟨S128x512, .f32⟩
  | 2 => ⟨S512, .f32⟩
  | 3 => ⟨S128x512, .f32⟩
  | 4 => ⟨S512, .f32⟩
  | 5 => ⟨S8x64, .f32⟩
  | 6 => ⟨S512, .f32⟩
  | 7 => ⟨S512x512, .f32⟩
  | 8 => ⟨S512, .f32⟩
  | 9 => ⟨S512x512, .f32⟩
  | 10 => ⟨S512, .f32⟩
  | 11 => ⟨S8x64, .f32⟩
  | 12 => ⟨S512, .f32⟩
  | 13 => ⟨S512x1, .f32⟩
  | 14 => ⟨S1, .f32⟩
  | 15 => ⟨S512x1, .f32⟩
  | 16 => ⟨S1, .f32⟩
  | 17 => ⟨S2x361, .i32⟩
  | 18 => ⟨S1x361, .i32⟩
  | 19 => ⟨S361, .i32⟩
  | 20 => ⟨S1x361, .i32⟩
  | 21 => ⟨S361, .i32⟩
  | 22 => ⟨S512x19x128, .f32⟩
  | 23 => ⟨S512x19x512, .f32⟩
  | 24 => ⟨S1x1x512, .f32⟩
  | 25 => ⟨S512x19x512, .f32⟩
  | 26 => ⟨S512x19x512, .f32⟩
  | 27 => ⟨S512x19x8x64, .f32⟩
  | 28 => ⟨S512x19x512, .f32⟩
  | 29 => ⟨S1x1x512, .f32⟩
  | 30 => ⟨S512x19x512, .f32⟩
  | 31 => ⟨S512x19x512, .f32⟩
  | 32 => ⟨S512x19x8x64, .f32⟩
  | 33 => ⟨S_, .i32⟩
  | 34 => ⟨S361, .i32⟩
  | 35 => ⟨S361, .i1⟩
  | 36 => ⟨S_, .i32⟩
  | 37 => ⟨S361, .i32⟩
  | 38 => ⟨S361, .i32⟩
  | 39 => ⟨S361, .i32⟩
  | 40 => ⟨S361x1, .i32⟩
  | 41 => ⟨S1, .i32⟩
  | 42 => ⟨S_, .i32⟩
  | 43 => ⟨S361x1, .i32⟩
  | 44 => ⟨S361x1, .i1⟩
  | 45 => ⟨S1x1, .i32⟩
  | 46 => ⟨S361x1, .i32⟩
  | 47 => ⟨S361x1, .i1⟩
  | 48 => ⟨S361x1, .i1⟩
  | 49 => ⟨S_, .i1⟩
  | 50 => ⟨S361, .i1⟩
  | 51 => ⟨S512x361x8x64, .f32⟩
  | 52 => ⟨S512x361x8x64, .i1⟩
  | 53 => ⟨S_, .f32⟩
  | 54 => ⟨S512x361x8x64, .f32⟩
  | 55 => ⟨S512x361x8x64, .f32⟩
  | 56 => ⟨S_, .i32⟩
  | 57 => ⟨S361, .i32⟩
  | 58 => ⟨S361, .i1⟩
  | 59 => ⟨S_, .i32⟩
  | 60 => ⟨S361, .i32⟩
  | 61 => ⟨S361, .i32⟩
  | 62 => ⟨S361, .i32⟩
  | 63 => ⟨S361x1, .i32⟩
  | 64 => ⟨S1, .i32⟩
  | 65 => ⟨S_, .i32⟩
  | 66 => ⟨S361x1, .i32⟩
  | 67 => ⟨S361x1, .i1⟩
  | 68 => ⟨S1x1, .i32⟩
  | 69 => ⟨S361x1, .i32⟩
  | 70 => ⟨S361x1, .i1⟩
  | 71 => ⟨S361x1, .i1⟩
  | 72 => ⟨S_, .i1⟩
  | 73 => ⟨S361, .i1⟩
  | 74 => ⟨S512x361x8x64, .f32⟩
  | 75 => ⟨S512x361x8x64, .i1⟩
  | 76 => ⟨S_, .f32⟩
  | 77 => ⟨S512x361x8x64, .f32⟩
  | 78 => ⟨S512x361x8x64, .f32⟩
  | 79 => ⟨S_, .f32⟩
  | 80 => ⟨S_, .f32⟩
  | 81 => ⟨S_, .f32⟩
  | 82 => ⟨S512x361x8x64, .f32⟩
  | 83 => ⟨S_, .f32⟩
  | 84 => ⟨S512x361x8x64, .f32⟩
  | 85 => ⟨S512x361x8x64, .i1⟩
  | 86 => ⟨S512x361x8x64, .f32⟩
  | 87 => ⟨S512x361x8x64, .f32⟩
  | 88 => ⟨S512x361x8x64, .f32⟩
  | 89 => ⟨S1x1x8x64, .f32⟩
  | 90 => ⟨S512x361x8x64, .f32⟩
  | 91 => ⟨S512x361x8x64, .f32⟩
  | 92 => ⟨S_, .f32⟩
  | 93 => ⟨S512x361x8, .f32⟩
  | 94 => ⟨S19, .i32⟩
  | 95 => ⟨S19x1, .i32⟩
  | 96 => ⟨S1x361, .i32⟩
  | 97 => ⟨S19x361, .i32⟩
  | 98 => ⟨S19x361, .i32⟩
  | 99 => ⟨S19x361, .i1⟩
  | 100 => ⟨S1x19x361x1, .i1⟩
  | 101 => ⟨S512x1x361x8, .f32⟩
  | 102 => ⟨S_, .f32⟩
  | 103 => ⟨S_, .f32⟩
  | 104 => ⟨S512x19x361x8, .i1⟩
  | 105 => ⟨S512x19x361x8, .f32⟩
  | 106 => ⟨S512x19x361x8, .f32⟩
  | 107 => ⟨S512x19x361x8, .f32⟩
  | 108 => ⟨S_, .f32⟩
  | 109 => ⟨S512x19x8, .f32⟩
  | 110 => ⟨S512x19x8, .f32⟩
  | 111 => ⟨S_, .f32⟩
  | 112 => ⟨S512x19x8, .f32⟩
  | 113 => ⟨S512x19x8, .i1⟩
  | 114 => ⟨S_, .f32⟩
  | 115 => ⟨S_, .f32⟩
  | 116 => ⟨S512x19x8, .f32⟩
  | 117 => ⟨S512x19x8, .f32⟩
  | 118 => ⟨S_, .i32⟩
  | 119 => ⟨S361, .i32⟩
  | 120 => ⟨S361, .i1⟩
  | 121 => ⟨S_, .i32⟩
  | 122 => ⟨S361, .i32⟩
  | 123 => ⟨S361, .i32⟩
  | 124 => ⟨S361, .i32⟩
  | 125 => ⟨S361x1, .i32⟩
  | 126 => ⟨S1, .i32⟩
  | 127 => ⟨S_, .i32⟩
  | _ => ⟨S512x128x19, .f32⟩

abbrev hbmTy0_1 (i : Nat) : BufTy := match i % 128 with
  | 0 => ⟨S361x1, .i32⟩
  | 1 => ⟨S361x1, .i1⟩
  | 2 => ⟨S1x1, .i32⟩
  | 3 => ⟨S361x1, .i32⟩
  | 4 => ⟨S361x1, .i1⟩
  | 5 => ⟨S361x1, .i1⟩
  | 6 => ⟨S_, .i1⟩
  | 7 => ⟨S361, .i1⟩
  | 8 => ⟨S512x361x8, .f32⟩
  | 9 => ⟨S512x361x8, .i1⟩
  | 10 => ⟨S_, .f32⟩
  | 11 => ⟨S512x361x8, .f32⟩
  | 12 => ⟨S512x361x8, .f32⟩
  | 13 => ⟨S512x361x8, .f32⟩
  | 14 => ⟨S512x361x8, .f32⟩
  | 15 => ⟨S512x1x361x8, .f32⟩
  | 16 => ⟨S_, .f32⟩
  | 17 => ⟨S_, .f32⟩
  | 18 => ⟨S512x19x361x8, .i1⟩
  | 19 => ⟨S512x19x361x8, .f32⟩
  | 20 => ⟨S512x19x361x8, .f32⟩
  | 21 => ⟨S512x19x361x8, .f32⟩
  | 22 => ⟨S_, .f32⟩
  | 23 => ⟨S512x19x8, .f32⟩
  | 24 => ⟨S_, .i32⟩
  | 25 => ⟨S361, .i32⟩
  | 26 => ⟨S361, .i1⟩
  | 27 => ⟨S_, .i32⟩
  | 28 => ⟨S361, .i32⟩
  | 29 => ⟨S361, .i32⟩
  | 30 => ⟨S361, .i32⟩
  | 31 => ⟨S361x1, .i32⟩
  | 32 => ⟨S1, .i32⟩
  | 33 => ⟨S_, .i32⟩
  | 34 => ⟨S361x1, .i32⟩
  | 35 => ⟨S361x1, .i1⟩
  | 36 => ⟨S1x1, .i32⟩
  | 37 => ⟨S361x1, .i32⟩
  | 38 => ⟨S361x1, .i1⟩
  | 39 => ⟨S361x1, .i1⟩
  | 40 => ⟨S_, .i1⟩
  | 41 => ⟨S361, .i1⟩
  | 42 => ⟨S512x361x8, .f32⟩
  | 43 => ⟨S512x361x8, .i1⟩
  | 44 => ⟨S_, .f32⟩
  | 45 => ⟨S512x361x8, .f32⟩
  | 46 => ⟨S512x361x8, .f32⟩
  | 47 => ⟨S_, .f32⟩
  | 48 => ⟨S512x361x8, .f32⟩
  | 49 => ⟨S512x361x8, .f32⟩
  | 50 => ⟨S512x361x8, .f32⟩
  | 51 => ⟨S512x361x8x1, .f32⟩
  | 52 => ⟨S512x361x8x64, .f32⟩
  | 53 => ⟨S512x361x8x64, .f32⟩
  | 54 => ⟨S1x19x361x1x1, .i1⟩
  | 55 => ⟨S512x1x361x8x64, .f32⟩
  | 56 => ⟨S_, .f32⟩
  | 57 => ⟨S_, .f32⟩
  | 58 => ⟨S512x19x361x8x64, .i1⟩
  | 59 => ⟨S512x19x361x8x64, .f32⟩
  | 60 => ⟨S512x19x361x8x64, .f32⟩
  | 61 => ⟨S512x19x361x8x64, .f32⟩
  | 62 => ⟨S_, .f32⟩
  | 63 => ⟨S512x19x8x64, .f32⟩
  | 64 => ⟨S512x19x512, .f32⟩
  | 65 => ⟨S1x1x512, .f32⟩
  | 66 => ⟨S512x19x512, .f32⟩
  | 67 => ⟨S512x19x512, .f32⟩
  | 68 => ⟨S_, .f32⟩
  | 69 => ⟨S512x19x512, .f32⟩
  | 70 => ⟨S512x19x512, .i1⟩
  | 71 => ⟨S_, .f32⟩
  | 72 => ⟨S512x19x512, .f32⟩
  | 73 => ⟨S512x19x512, .i1⟩
  | 74 => ⟨S_, .f32⟩
  | 75 => ⟨S_, .f32⟩
  | 76 => ⟨S512x19x512, .f32⟩
  | 77 => ⟨S512x19x512, .f32⟩
  | 78 => ⟨S512x19x512, .f32⟩
  | 79 => ⟨S_, .f32⟩
  | 80 => ⟨S512x19x512, .f32⟩
  | 81 => ⟨S512x19x512, .f32⟩
  | 82 => ⟨S512x19x512, .f32⟩
  | 83 => ⟨S512x19x512, .f32⟩
  | 84 => ⟨S1x1x512, .f32⟩
  | 85 => ⟨S512x19x512, .f32⟩
  | 86 => ⟨S512x19x512, .f32⟩
  | 87 => ⟨S512x19x8x64, .f32⟩
  | 88 => ⟨S512x19x512, .f32⟩
  | 89 => ⟨S1x1x512, .f32⟩
  | 90 => ⟨S512x19x512, .f32⟩
  | 91 => ⟨S512x19x512, .f32⟩
  | 92 => ⟨S512x19x8x64, .f32⟩
  | 93 => ⟨S_, .i32⟩
  | 94 => ⟨S361, .i32⟩
  | 95 => ⟨S361, .i1⟩
  | 96 => ⟨S_, .i32⟩
  | 97 => ⟨S361, .i32⟩
  | 98 => ⟨S361, .i32⟩
  | 99 => ⟨S361, .i32⟩
  | 100 => ⟨S361x1, .i32⟩
  | 101 => ⟨S1, .i32⟩
  | 102 => ⟨S_, .i32⟩
  | 103 => ⟨S361x1, .i32⟩
  | 104 => ⟨S361x1, .i1⟩
  | 105 => ⟨S1x1, .i32⟩
  | 106 => ⟨S361x1, .i32⟩
  | 107 => ⟨S361x1, .i1⟩
  | 108 => ⟨S361x1, .i1⟩
  | 109 => ⟨S_, .i1⟩
  | 110 => ⟨S361, .i1⟩
  | 111 => ⟨S512x361x8x64, .f32⟩
  | 112 => ⟨S512x361x8x64, .i1⟩
  | 113 => ⟨S_, .f32⟩
  | 114 => ⟨S512x361x8x64, .f32⟩
  | 115 => ⟨S512x361x8x64, .f32⟩
  | 116 => ⟨S_, .i32⟩
  | 117 => ⟨S361, .i32⟩
  | 118 => ⟨S361, .i1⟩
  | 119 => ⟨S_, .i32⟩
  | 120 => ⟨S361, .i32⟩
  | 121 => ⟨S361, .i32⟩
  | 122 => ⟨S361, .i32⟩
  | 123 => ⟨S361x1, .i32⟩
  | 124 => ⟨S1, .i32⟩
  | 125 => ⟨S_, .i32⟩
  | 126 => ⟨S361x1, .i32⟩
  | 127 => ⟨S361x1, .i1⟩
  | _ => ⟨S512x128x19, .f32⟩

abbrev hbmTy0_2 (i : Nat) : BufTy := match i % 128 with
  | 0 => ⟨S1x1, .i32⟩
  | 1 => ⟨S361x1, .i32⟩
  | 2 => ⟨S361x1, .i1⟩
  | 3 => ⟨S361x1, .i1⟩
  | 4 => ⟨S_, .i1⟩
  | 5 => ⟨S361, .i1⟩
  | 6 => ⟨S512x361x8x64, .f32⟩
  | 7 => ⟨S512x361x8x64, .i1⟩
  | 8 => ⟨S_, .f32⟩
  | 9 => ⟨S512x361x8x64, .f32⟩
  | 10 => ⟨S512x361x8x64, .f32⟩
  | 11 => ⟨S_, .f32⟩
  | 12 => ⟨S_, .f32⟩
  | 13 => ⟨S_, .f32⟩
  | 14 => ⟨S512x361x8x64, .f32⟩
  | 15 => ⟨S_, .f32⟩
  | 16 => ⟨S512x361x8x64, .f32⟩
  | 17 => ⟨S512x361x8x64, .i1⟩
  | 18 => ⟨S512x361x8x64, .f32⟩
  | 19 => ⟨S512x361x8x64, .f32⟩
  | 20 => ⟨S512x361x8x64, .f32⟩
  | 21 => ⟨S1x1x8x64, .f32⟩
  | 22 => ⟨S512x361x8x64, .f32⟩
  | 23 => ⟨S512x361x8x64, .f32⟩
  | 24 => ⟨S_, .f32⟩
  | 25 => ⟨S512x361x8, .f32⟩
  | 26 => ⟨S19, .i32⟩
  | 27 => ⟨S19x1, .i32⟩
  | 28 => ⟨S1x361, .i32⟩
  | 29 => ⟨S19x361, .i32⟩
  | 30 => ⟨S19x361, .i32⟩
  | 31 => ⟨S19x361, .i1⟩
  | 32 => ⟨S1x19x361x1, .i1⟩
  | 33 => ⟨S512x1x361x8, .f32⟩
  | 34 => ⟨S_, .f32⟩
  | 35 => ⟨S_, .f32⟩
  | 36 => ⟨S512x19x361x8, .i1⟩
  | 37 => ⟨S512x19x361x8, .f32⟩
  | 38 => ⟨S512x19x361x8, .f32⟩
  | 39 => ⟨S512x19x361x8, .f32⟩
  | 40 => ⟨S_, .f32⟩
  | 41 => ⟨S512x19x8, .f32⟩
  | 42 => ⟨S512x19x8, .f32⟩
  | 43 => ⟨S_, .f32⟩
  | 44 => ⟨S512x19x8, .f32⟩
  | 45 => ⟨S512x19x8, .i1⟩
  | 46 => ⟨S_, .f32⟩
  | 47 => ⟨S_, .f32⟩
  | 48 => ⟨S512x19x8, .f32⟩
  | 49 => ⟨S512x19x8, .f32⟩
  | 50 => ⟨S_, .i32⟩
  | 51 => ⟨S361, .i32⟩
  | 52 => ⟨S361, .i1⟩
  | 53 => ⟨S_, .i32⟩
  | 54 => ⟨S361, .i32⟩
  | 55 => ⟨S361, .i32⟩
  | 56 => ⟨S361, .i32⟩
  | 57 => ⟨S361x1, .i32⟩
  | 58 => ⟨S1, .i32⟩
  | 59 => ⟨S_, .i32⟩
  | 60 => ⟨S361x1, .i32⟩
  | 61 => ⟨S361x1, .i1⟩
  | 62 => ⟨S1x1, .i32⟩
  | 63 => ⟨S361x1, .i32⟩
  | 64 => ⟨S361x1, .i1⟩
  | 65 => ⟨S361x1, .i1⟩
  | 66 => ⟨S_, .i1⟩
  | 67 => ⟨S361, .i1⟩
  | 68 => ⟨S512x361x8, .f32⟩
  | 69 => ⟨S512x361x8, .i1⟩
  | 70 => ⟨S_, .f32⟩
  | 71 => ⟨S512x361x8, .f32⟩
  | 72 => ⟨S512x361x8, .f32⟩
  | 73 => ⟨S512x361x8, .f32⟩
  | 74 => ⟨S512x361x8, .f32⟩
  | 75 => ⟨S512x1x361x8, .f32⟩
  | 76 => ⟨S_, .f32⟩
  | 77 => ⟨S_, .f32⟩
  | 78 => ⟨S512x19x361x8, .i1⟩
  | 79 => ⟨S512x19x361x8, .f32⟩
  | 80 => ⟨S512x19x361x8, .f32⟩
  | 81 => ⟨S512x19x361x8, .f32⟩
  | 82 => ⟨S_, .f32⟩
  | 83 => ⟨S512x19x8, .f32⟩
  | 84 => ⟨S_, .i32⟩
  | 85 => ⟨S361, .i32⟩
  | 86 => ⟨S361, .i1⟩
  | 87 => ⟨S_, .i32⟩
  | 88 => ⟨S361, .i32⟩
  | 89 => ⟨S361, .i32⟩
  | 90 => ⟨S361, .i32⟩
  | 91 => ⟨S361x1, .i32⟩
  | 92 => ⟨S1, .i32⟩
  | 93 => ⟨S_, .i32⟩
  | 94 => ⟨S361x1, .i32⟩
  | 95 => ⟨S361x1, .i1⟩
  | 96 => ⟨S1x1, .i32⟩
  | 97 => ⟨S361x1, .i32⟩
  | 98 => ⟨S361x1, .i1⟩
  | 99 => ⟨S361x1, .i1⟩
  | 100 => ⟨S_, .i1⟩
  | 101 => ⟨S361, .i1⟩
  | 102 => ⟨S512x361x8, .f32⟩
  | 103 => ⟨S512x361x8, .i1⟩
  | 104 => ⟨S_, .f32⟩
  | 105 => ⟨S512x361x8, .f32⟩
  | 106 => ⟨S512x361x8, .f32⟩
  | 107 => ⟨S_, .f32⟩
  | 108 => ⟨S512x361x8, .f32⟩
  | 109 => ⟨S512x361x8, .f32⟩
  | 110 => ⟨S512x361x8, .f32⟩
  | 111 => ⟨S512x361x8x1, .f32⟩
  | 112 => ⟨S512x361x8x64, .f32⟩
  | 113 => ⟨S512x361x8x64, .f32⟩
  | 114 => ⟨S1x19x361x1x1, .i1⟩
  | 115 => ⟨S512x1x361x8x64, .f32⟩
  | 116 => ⟨S_, .f32⟩
  | 117 => ⟨S_, .f32⟩
  | 118 => ⟨S512x19x361x8x64, .i1⟩
  | 119 => ⟨S512x19x361x8x64, .f32⟩
  | 120 => ⟨S512x19x361x8x64, .f32⟩
  | 121 => ⟨S512x19x361x8x64, .f32⟩
  | 122 => ⟨S_, .f32⟩
  | 123 => ⟨S512x19x8x64, .f32⟩
  | 124 => ⟨S512x19x512, .f32⟩
  | 125 => ⟨S1x1x512, .f32⟩
  | 126 => ⟨S512x19x512, .f32⟩
  | 127 => ⟨S512x19x512, .f32⟩
  | _ => ⟨S512x128x19, .f32⟩

abbrev hbmTy0_3 (i : Nat) : BufTy := match i % 128 with
  | 0 => ⟨S512x19x1, .f32⟩
  | 1 => ⟨S1x1x1, .f32⟩
  | 2 => ⟨S512x19x1, .f32⟩
  | 3 => ⟨S512x19x1, .f32⟩
  | 4 => ⟨S_, .f32⟩
  | 5 => ⟨S512x1, .f32⟩
  | 6 => ⟨S_, .f32⟩
  | 7 => ⟨S512x1, .f32⟩
  | 8 => ⟨S512x1, .f32⟩
  | 9 => ⟨S512x1x1, .f32⟩
  | 10 => ⟨S512x19x1, .f32⟩
  | 11 => ⟨S512x19x1, .f32⟩
  | 12 => ⟨S512x19x1, .f32⟩
  | 13 => ⟨S_, .f32⟩
  | 14 => ⟨S512x1, .f32⟩
  | 15 => ⟨S512x1x1, .f32⟩
  | 16 => ⟨S512x19x1, .f32⟩
  | 17 => ⟨S512x19x1, .f32⟩
  | 18 => ⟨S512x19x512, .f32⟩
  | 19 => ⟨S512x19x512, .f32⟩
  | 20 => ⟨S_, .f32⟩
  | 21 => ⟨S512x512, .f32⟩
  | 22 => ⟨S512x1, .f32⟩
  | 23 => ⟨S1x1, .f32⟩
  | 24 => ⟨S512x1, .f32⟩
  | 25 => ⟨S512x1, .f32⟩
  | 26 => ⟨S512, .f32⟩
  | _ => ⟨S512x128x19, .f32⟩

abbrev hbmTy (i : Nat) : BufTy := match i / 128 with
  | 0 => hbmTy0_0 i
  | 1 => hbmTy0_1 i
  | 2 => hbmTy0_2 i
  | 3 => hbmTy0_3 i
  | _ => ⟨S512x128x19, .f32⟩

abbrev bufTy : (tb : Table) → Fin (tcTables nBuf tb) → BufTy
  | .hbm, ⟨i, _⟩ => hbmTy i
  | _, _ => ⟨S512x128x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v15 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v16 : Ref sig .tc := ⟨.hbm, 78, rfl⟩
abbrev main_cst : Ref sig .tc := ⟨.hbm, 79, rfl⟩
abbrev main_cst_0 : Ref sig .tc := ⟨.hbm, 80, rfl⟩
abbrev main_v17 : Ref sig .tc := ⟨.hbm, 81, rfl⟩
abbrev main_v18 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_cst_1 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_cst_2 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_v32 : Ref sig .tc := ⟨.hbm, 107, rfl⟩
abbrev main_cst_3 : Ref sig .tc := ⟨.hbm, 108, rfl⟩
abbrev main_v33 : Ref sig .tc := ⟨.hbm, 109, rfl⟩
abbrev main_v34 : Ref sig .tc := ⟨.hbm, 110, rfl⟩
abbrev main_cst_4 : Ref sig .tc := ⟨.hbm, 111, rfl⟩
abbrev main_v35 : Ref sig .tc := ⟨.hbm, 112, rfl⟩
abbrev main_v36 : Ref sig .tc := ⟨.hbm, 113, rfl⟩
abbrev main_cst_5 : Ref sig .tc := ⟨.hbm, 114, rfl⟩
abbrev main_call4_v0 : Ref sig .tc := ⟨.hbm, 115, rfl⟩
abbrev main_call4_v1 : Ref sig .tc := ⟨.hbm, 116, rfl⟩
abbrev main_v37 : Ref sig .tc := ⟨.hbm, 117, rfl⟩
abbrev main_call5_c : Ref sig .tc := ⟨.hbm, 118, rfl⟩
abbrev main_call5_v0 : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_c_1 : Ref sig .tc := ⟨.hbm, 126, rfl⟩
abbrev main_call5_c_2 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_c_3 : Ref sig .tc := ⟨.hbm, 134, rfl⟩
abbrev main_call5_v12 : Ref sig .tc := ⟨.hbm, 135, rfl⟩
abbrev main_call5_v13 : Ref sig .tc := ⟨.hbm, 136, rfl⟩
abbrev main_call5_v14 : Ref sig .tc := ⟨.hbm, 137, rfl⟩
abbrev main_call5_cst : Ref sig .tc := ⟨.hbm, 138, rfl⟩
abbrev main_call5_v15 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_cst_6 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_v42 : Ref sig .tc := ⟨.hbm, 149, rfl⟩
abbrev main_cst_7 : Ref sig .tc := ⟨.hbm, 150, rfl⟩
abbrev main_v43 : Ref sig .tc := ⟨.hbm, 151, rfl⟩
abbrev main_call7_c : Ref sig .tc := ⟨.hbm, 152, rfl⟩
abbrev main_call7_v0 : Ref sig .tc := ⟨.hbm, 153, rfl⟩
abbrev main_call7_v1 : Ref sig .tc := ⟨.hbm, 154, rfl⟩
abbrev main_call7_c_0 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_c_1 : Ref sig .tc := ⟨.hbm, 160, rfl⟩
abbrev main_call7_c_2 : Ref sig .tc := ⟨.hbm, 161, rfl⟩
abbrev main_call7_v6 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_c_3 : Ref sig .tc := ⟨.hbm, 168, rfl⟩
abbrev main_call7_v12 : Ref sig .tc := ⟨.hbm, 169, rfl⟩
abbrev main_call7_v13 : Ref sig .tc := ⟨.hbm, 170, rfl⟩
abbrev main_call7_v14 : Ref sig .tc := ⟨.hbm, 171, rfl⟩
abbrev main_call7_cst : Ref sig .tc := ⟨.hbm, 172, rfl⟩
abbrev main_call7_v15 : Ref sig .tc := ⟨.hbm, 173, rfl⟩
abbrev main_v44 : Ref sig .tc := ⟨.hbm, 174, rfl⟩
abbrev main_cst_8 : Ref sig .tc := ⟨.hbm, 175, rfl⟩
abbrev main_v45 : Ref sig .tc := ⟨.hbm, 176, rfl⟩
abbrev main_v46 : Ref sig .tc := ⟨.hbm, 177, rfl⟩
abbrev main_v47 : Ref sig .tc := ⟨.hbm, 178, rfl⟩
abbrev main_v48 : Ref sig .tc := ⟨.hbm, 179, rfl⟩
abbrev main_v49 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_cst_9 : Ref sig .tc := ⟨.hbm, 184, rfl⟩
abbrev main_call8_v0 : Ref sig .tc := ⟨.hbm, 185, rfl⟩
abbrev main_call8_v1 : Ref sig .tc := ⟨.hbm, 186, rfl⟩
abbrev main_call8_v2 : Ref sig .tc := ⟨.hbm, 187, rfl⟩
abbrev main_call8_v3 : Ref sig .tc := ⟨.hbm, 188, rfl⟩
abbrev main_v53 : Ref sig .tc := ⟨.hbm, 189, rfl⟩
abbrev main_cst_10 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_call9_cst : Ref sig .tc := ⟨.hbm, 196, rfl⟩
abbrev main_call9_v0 : Ref sig .tc := ⟨.hbm, 197, rfl⟩
abbrev main_call9_v1 : Ref sig .tc := ⟨.hbm, 198, rfl⟩
abbrev main_call9_cst_0 : Ref sig .tc := ⟨.hbm, 199, rfl⟩
abbrev main_call9_v2 : Ref sig .tc := ⟨.hbm, 200, rfl⟩
abbrev main_call9_v3 : Ref sig .tc := ⟨.hbm, 201, rfl⟩
abbrev main_call9_cst_1 : Ref sig .tc := ⟨.hbm, 202, rfl⟩
abbrev main_call9_call0_v0 : Ref sig .tc := ⟨.hbm, 203, rfl⟩
abbrev main_call9_call0_v1 : Ref sig .tc := ⟨.hbm, 204, rfl⟩
abbrev main_call9_v4 : Ref sig .tc := ⟨.hbm, 205, rfl⟩
abbrev main_call9_v5 : Ref sig .tc := ⟨.hbm, 206, rfl⟩
abbrev main_call9_cst_2 : Ref sig .tc := ⟨.hbm, 207, rfl⟩
abbrev main_call9_v6 : Ref sig .tc := ⟨.hbm, 208, rfl⟩
abbrev main_call9_v7 : Ref sig .tc := ⟨.hbm, 209, rfl⟩
abbrev main_v59 : Ref sig .tc := ⟨.hbm, 210, rfl⟩
abbrev main_v60 : Ref sig .tc := ⟨.hbm, 211, rfl⟩
abbrev main_v61 : Ref sig .tc := ⟨.hbm, 212, rfl⟩
abbrev main_v62 : Ref sig .tc := ⟨.hbm, 213, rfl⟩
abbrev main_v63 : Ref sig .tc := ⟨.hbm, 214, rfl⟩
abbrev main_v64 : Ref sig .tc := ⟨.hbm, 215, rfl⟩
abbrev main_v65 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩
abbrev main_call10_c : Ref sig .tc := ⟨.hbm, 221, rfl⟩
abbrev main_call10_v0 : Ref sig .tc := ⟨.hbm, 222, rfl⟩
abbrev main_call10_v1 : Ref sig .tc := ⟨.hbm, 223, rfl⟩
abbrev main_call10_c_0 : Ref sig .tc := ⟨.hbm, 224, rfl⟩
abbrev main_call10_v2 : Ref sig .tc := ⟨.hbm, 225, rfl⟩
abbrev main_call10_v3 : Ref sig .tc := ⟨.hbm, 226, rfl⟩
abbrev main_call10_v4 : Ref sig .tc := ⟨.hbm, 227, rfl⟩
abbrev main_call10_v5 : Ref sig .tc := ⟨.hbm, 228, rfl⟩
abbrev main_call10_c_1 : Ref sig .tc := ⟨.hbm, 229, rfl⟩
abbrev main_call10_c_2 : Ref sig .tc := ⟨.hbm, 230, rfl⟩
abbrev main_call10_v6 : Ref sig .tc := ⟨.hbm, 231, rfl⟩
abbrev main_call10_v7 : Ref sig .tc := ⟨.hbm, 232, rfl⟩
abbrev main_call10_v8 : Ref sig .tc := ⟨.hbm, 233, rfl⟩
abbrev main_call10_v9 : Ref sig .tc := ⟨.hbm, 234, rfl⟩
abbrev main_call10_v10 : Ref sig .tc := ⟨.hbm, 235, rfl⟩
abbrev main_call10_v11 : Ref sig .tc := ⟨.hbm, 236, rfl⟩
abbrev main_call10_c_3 : Ref sig .tc := ⟨.hbm, 237, rfl⟩
abbrev main_call10_v12 : Ref sig .tc := ⟨.hbm, 238, rfl⟩
abbrev main_call10_v13 : Ref sig .tc := ⟨.hbm, 239, rfl⟩
abbrev main_call10_v14 : Ref sig .tc := ⟨.hbm, 240, rfl⟩
abbrev main_call10_cst : Ref sig .tc := ⟨.hbm, 241, rfl⟩
abbrev main_call10_v15 : Ref sig .tc := ⟨.hbm, 242, rfl⟩
abbrev main_v70 : Ref sig .tc := ⟨.hbm, 243, rfl⟩
abbrev main_call11_c : Ref sig .tc := ⟨.hbm, 244, rfl⟩
abbrev main_call11_v0 : Ref sig .tc := ⟨.hbm, 245, rfl⟩
abbrev main_call11_v1 : Ref sig .tc := ⟨.hbm, 246, rfl⟩
abbrev main_call11_c_0 : Ref sig .tc := ⟨.hbm, 247, rfl⟩
abbrev main_call11_v2 : Ref sig .tc := ⟨.hbm, 248, rfl⟩
abbrev main_call11_v3 : Ref sig .tc := ⟨.hbm, 249, rfl⟩
abbrev main_call11_v4 : Ref sig .tc := ⟨.hbm, 250, rfl⟩
abbrev main_call11_v5 : Ref sig .tc := ⟨.hbm, 251, rfl⟩
abbrev main_call11_c_1 : Ref sig .tc := ⟨.hbm, 252, rfl⟩
abbrev main_call11_c_2 : Ref sig .tc := ⟨.hbm, 253, rfl⟩
abbrev main_call11_v6 : Ref sig .tc := ⟨.hbm, 254, rfl⟩
abbrev main_call11_v7 : Ref sig .tc := ⟨.hbm, 255, rfl⟩
abbrev main_call11_v8 : Ref sig .tc := ⟨.hbm, 256, rfl⟩
abbrev main_call11_v9 : Ref sig .tc := ⟨.hbm, 257, rfl⟩
abbrev main_call11_v10 : Ref sig .tc := ⟨.hbm, 258, rfl⟩
abbrev main_call11_v11 : Ref sig .tc := ⟨.hbm, 259, rfl⟩
abbrev main_call11_c_3 : Ref sig .tc := ⟨.hbm, 260, rfl⟩
abbrev main_call11_v12 : Ref sig .tc := ⟨.hbm, 261, rfl⟩
abbrev main_call11_v13 : Ref sig .tc := ⟨.hbm, 262, rfl⟩
abbrev main_call11_v14 : Ref sig .tc := ⟨.hbm, 263, rfl⟩
abbrev main_call11_cst : Ref sig .tc := ⟨.hbm, 264, rfl⟩
abbrev main_call11_v15 : Ref sig .tc := ⟨.hbm, 265, rfl⟩
abbrev main_v71 : Ref sig .tc := ⟨.hbm, 266, rfl⟩
abbrev main_cst_11 : Ref sig .tc := ⟨.hbm, 267, rfl⟩
abbrev main_cst_12 : Ref sig .tc := ⟨.hbm, 268, rfl⟩
abbrev main_v72 : Ref sig .tc := ⟨.hbm, 269, rfl⟩
abbrev main_v73 : Ref sig .tc := ⟨.hbm, 270, rfl⟩
abbrev main_call12_cst : Ref sig .tc := ⟨.hbm, 271, rfl⟩
abbrev main_call12_v0 : Ref sig .tc := ⟨.hbm, 272, rfl⟩
abbrev main_call12_v1 : Ref sig .tc := ⟨.hbm, 273, rfl⟩
abbrev main_call12_v2 : Ref sig .tc := ⟨.hbm, 274, rfl⟩
abbrev main_call12_v3 : Ref sig .tc := ⟨.hbm, 275, rfl⟩
abbrev main_v74 : Ref sig .tc := ⟨.hbm, 276, rfl⟩
abbrev main_v75 : Ref sig .tc := ⟨.hbm, 277, rfl⟩
abbrev main_v76 : Ref sig .tc := ⟨.hbm, 278, rfl⟩
abbrev main_v77 : Ref sig .tc := ⟨.hbm, 279, rfl⟩
abbrev main_cst_13 : Ref sig .tc := ⟨.hbm, 280, rfl⟩
abbrev main_v78 : Ref sig .tc := ⟨.hbm, 281, rfl⟩
abbrev main_v79 : Ref sig .tc := ⟨.hbm, 282, rfl⟩
abbrev main_v80 : Ref sig .tc := ⟨.hbm, 283, rfl⟩
abbrev main_v81 : Ref sig .tc := ⟨.hbm, 284, rfl⟩
abbrev main_v82 : Ref sig .tc := ⟨.hbm, 285, rfl⟩
abbrev main_v83 : Ref sig .tc := ⟨.hbm, 286, rfl⟩
abbrev main_v84 : Ref sig .tc := ⟨.hbm, 287, rfl⟩
abbrev main_v85 : Ref sig .tc := ⟨.hbm, 288, rfl⟩
abbrev main_v86 : Ref sig .tc := ⟨.hbm, 289, rfl⟩
abbrev main_cst_14 : Ref sig .tc := ⟨.hbm, 290, rfl⟩
abbrev main_call13_v0 : Ref sig .tc := ⟨.hbm, 291, rfl⟩
abbrev main_call13_v1 : Ref sig .tc := ⟨.hbm, 292, rfl⟩
abbrev main_call13_v2 : Ref sig .tc := ⟨.hbm, 293, rfl⟩
abbrev main_call13_v3 : Ref sig .tc := ⟨.hbm, 294, rfl⟩
abbrev main_v87 : Ref sig .tc := ⟨.hbm, 295, rfl⟩
abbrev main_cst_15 : Ref sig .tc := ⟨.hbm, 296, rfl⟩
abbrev main_v88 : Ref sig .tc := ⟨.hbm, 297, rfl⟩
abbrev main_v89 : Ref sig .tc := ⟨.hbm, 298, rfl⟩
abbrev main_cst_16 : Ref sig .tc := ⟨.hbm, 299, rfl⟩
abbrev main_v90 : Ref sig .tc := ⟨.hbm, 300, rfl⟩
abbrev main_v91 : Ref sig .tc := ⟨.hbm, 301, rfl⟩
abbrev main_cst_17 : Ref sig .tc := ⟨.hbm, 302, rfl⟩
abbrev main_call14_v0 : Ref sig .tc := ⟨.hbm, 303, rfl⟩
abbrev main_call14_v1 : Ref sig .tc := ⟨.hbm, 304, rfl⟩
abbrev main_v92 : Ref sig .tc := ⟨.hbm, 305, rfl⟩
abbrev main_call15_c : Ref sig .tc := ⟨.hbm, 306, rfl⟩
abbrev main_call15_v0 : Ref sig .tc := ⟨.hbm, 307, rfl⟩
abbrev main_call15_v1 : Ref sig .tc := ⟨.hbm, 308, rfl⟩
abbrev main_call15_c_0 : Ref sig .tc := ⟨.hbm, 309, rfl⟩
abbrev main_call15_v2 : Ref sig .tc := ⟨.hbm, 310, rfl⟩
abbrev main_call15_v3 : Ref sig .tc := ⟨.hbm, 311, rfl⟩
abbrev main_call15_v4 : Ref sig .tc := ⟨.hbm, 312, rfl⟩
abbrev main_call15_v5 : Ref sig .tc := ⟨.hbm, 313, rfl⟩
abbrev main_call15_c_1 : Ref sig .tc := ⟨.hbm, 314, rfl⟩
abbrev main_call15_c_2 : Ref sig .tc := ⟨.hbm, 315, rfl⟩
abbrev main_call15_v6 : Ref sig .tc := ⟨.hbm, 316, rfl⟩
abbrev main_call15_v7 : Ref sig .tc := ⟨.hbm, 317, rfl⟩
abbrev main_call15_v8 : Ref sig .tc := ⟨.hbm, 318, rfl⟩
abbrev main_call15_v9 : Ref sig .tc := ⟨.hbm, 319, rfl⟩
abbrev main_call15_v10 : Ref sig .tc := ⟨.hbm, 320, rfl⟩
abbrev main_call15_v11 : Ref sig .tc := ⟨.hbm, 321, rfl⟩
abbrev main_call15_c_3 : Ref sig .tc := ⟨.hbm, 322, rfl⟩
abbrev main_call15_v12 : Ref sig .tc := ⟨.hbm, 323, rfl⟩
abbrev main_call15_v13 : Ref sig .tc := ⟨.hbm, 324, rfl⟩
abbrev main_call15_v14 : Ref sig .tc := ⟨.hbm, 325, rfl⟩
abbrev main_call15_cst : Ref sig .tc := ⟨.hbm, 326, rfl⟩
abbrev main_call15_v15 : Ref sig .tc := ⟨.hbm, 327, rfl⟩
abbrev main_v93 : Ref sig .tc := ⟨.hbm, 328, rfl⟩
abbrev main_v94 : Ref sig .tc := ⟨.hbm, 329, rfl⟩
abbrev main_v95 : Ref sig .tc := ⟨.hbm, 330, rfl⟩
abbrev main_v96 : Ref sig .tc := ⟨.hbm, 331, rfl⟩
abbrev main_cst_18 : Ref sig .tc := ⟨.hbm, 332, rfl⟩
abbrev main_call16_v0 : Ref sig .tc := ⟨.hbm, 333, rfl⟩
abbrev main_call16_v1 : Ref sig .tc := ⟨.hbm, 334, rfl⟩
abbrev main_call16_v2 : Ref sig .tc := ⟨.hbm, 335, rfl⟩
abbrev main_call16_v3 : Ref sig .tc := ⟨.hbm, 336, rfl⟩
abbrev main_v97 : Ref sig .tc := ⟨.hbm, 337, rfl⟩
abbrev main_cst_19 : Ref sig .tc := ⟨.hbm, 338, rfl⟩
abbrev main_v98 : Ref sig .tc := ⟨.hbm, 339, rfl⟩
abbrev main_call17_c : Ref sig .tc := ⟨.hbm, 340, rfl⟩
abbrev main_call17_v0 : Ref sig .tc := ⟨.hbm, 341, rfl⟩
abbrev main_call17_v1 : Ref sig .tc := ⟨.hbm, 342, rfl⟩
abbrev main_call17_c_0 : Ref sig .tc := ⟨.hbm, 343, rfl⟩
abbrev main_call17_v2 : Ref sig .tc := ⟨.hbm, 344, rfl⟩
abbrev main_call17_v3 : Ref sig .tc := ⟨.hbm, 345, rfl⟩
abbrev main_call17_v4 : Ref sig .tc := ⟨.hbm, 346, rfl⟩
abbrev main_call17_v5 : Ref sig .tc := ⟨.hbm, 347, rfl⟩
abbrev main_call17_c_1 : Ref sig .tc := ⟨.hbm, 348, rfl⟩
abbrev main_call17_c_2 : Ref sig .tc := ⟨.hbm, 349, rfl⟩
abbrev main_call17_v6 : Ref sig .tc := ⟨.hbm, 350, rfl⟩
abbrev main_call17_v7 : Ref sig .tc := ⟨.hbm, 351, rfl⟩
abbrev main_call17_v8 : Ref sig .tc := ⟨.hbm, 352, rfl⟩
abbrev main_call17_v9 : Ref sig .tc := ⟨.hbm, 353, rfl⟩
abbrev main_call17_v10 : Ref sig .tc := ⟨.hbm, 354, rfl⟩
abbrev main_call17_v11 : Ref sig .tc := ⟨.hbm, 355, rfl⟩
abbrev main_call17_c_3 : Ref sig .tc := ⟨.hbm, 356, rfl⟩
abbrev main_call17_v12 : Ref sig .tc := ⟨.hbm, 357, rfl⟩
abbrev main_call17_v13 : Ref sig .tc := ⟨.hbm, 358, rfl⟩
abbrev main_call17_v14 : Ref sig .tc := ⟨.hbm, 359, rfl⟩
abbrev main_call17_cst : Ref sig .tc := ⟨.hbm, 360, rfl⟩
abbrev main_call17_v15 : Ref sig .tc := ⟨.hbm, 361, rfl⟩
abbrev main_v99 : Ref sig .tc := ⟨.hbm, 362, rfl⟩
abbrev main_cst_20 : Ref sig .tc := ⟨.hbm, 363, rfl⟩
abbrev main_v100 : Ref sig .tc := ⟨.hbm, 364, rfl⟩
abbrev main_v101 : Ref sig .tc := ⟨.hbm, 365, rfl⟩
abbrev main_v102 : Ref sig .tc := ⟨.hbm, 366, rfl⟩
abbrev main_v103 : Ref sig .tc := ⟨.hbm, 367, rfl⟩
abbrev main_v104 : Ref sig .tc := ⟨.hbm, 368, rfl⟩
abbrev main_v105 : Ref sig .tc := ⟨.hbm, 369, rfl⟩
abbrev main_v106 : Ref sig .tc := ⟨.hbm, 370, rfl⟩
abbrev main_v107 : Ref sig .tc := ⟨.hbm, 371, rfl⟩
abbrev main_cst_21 : Ref sig .tc := ⟨.hbm, 372, rfl⟩
abbrev main_call18_v0 : Ref sig .tc := ⟨.hbm, 373, rfl⟩
abbrev main_call18_v1 : Ref sig .tc := ⟨.hbm, 374, rfl⟩
abbrev main_call18_v2 : Ref sig .tc := ⟨.hbm, 375, rfl⟩
abbrev main_call18_v3 : Ref sig .tc := ⟨.hbm, 376, rfl⟩
abbrev main_v108 : Ref sig .tc := ⟨.hbm, 377, rfl⟩
abbrev main_cst_22 : Ref sig .tc := ⟨.hbm, 378, rfl⟩
abbrev main_v109 : Ref sig .tc := ⟨.hbm, 379, rfl⟩
abbrev main_v110 : Ref sig .tc := ⟨.hbm, 380, rfl⟩
abbrev main_v111 : Ref sig .tc := ⟨.hbm, 381, rfl⟩
abbrev main_v112 : Ref sig .tc := ⟨.hbm, 382, rfl⟩
abbrev main_v113 : Ref sig .tc := ⟨.hbm, 383, rfl⟩
abbrev main_v114 : Ref sig .tc := ⟨.hbm, 384, rfl⟩
abbrev main_v115 : Ref sig .tc := ⟨.hbm, 385, rfl⟩
abbrev main_v116 : Ref sig .tc := ⟨.hbm, 386, rfl⟩
abbrev main_v117 : Ref sig .tc := ⟨.hbm, 387, rfl⟩
abbrev main_cst_23 : Ref sig .tc := ⟨.hbm, 388, rfl⟩
abbrev main_v118 : Ref sig .tc := ⟨.hbm, 389, rfl⟩
abbrev main_cst_24 : Ref sig .tc := ⟨.hbm, 390, rfl⟩
abbrev main_v119 : Ref sig .tc := ⟨.hbm, 391, rfl⟩
abbrev main_v120 : Ref sig .tc := ⟨.hbm, 392, rfl⟩
abbrev main_v121 : Ref sig .tc := ⟨.hbm, 393, rfl⟩
abbrev main_v122 : Ref sig .tc := ⟨.hbm, 394, rfl⟩
abbrev main_v123 : Ref sig .tc := ⟨.hbm, 395, rfl⟩
abbrev main_v124 : Ref sig .tc := ⟨.hbm, 396, rfl⟩
abbrev main_cst_25 : Ref sig .tc := ⟨.hbm, 397, rfl⟩
abbrev main_v125 : Ref sig .tc := ⟨.hbm, 398, rfl⟩
abbrev main_v126 : Ref sig .tc := ⟨.hbm, 399, rfl⟩
abbrev main_v127 : Ref sig .tc := ⟨.hbm, 400, rfl⟩
abbrev main_v128 : Ref sig .tc := ⟨.hbm, 401, rfl⟩
abbrev main_v129 : Ref sig .tc := ⟨.hbm, 402, rfl⟩
abbrev main_v130 : Ref sig .tc := ⟨.hbm, 403, rfl⟩
abbrev main_cst_26 : Ref sig .tc := ⟨.hbm, 404, rfl⟩
abbrev main_v131 : Ref sig .tc := ⟨.hbm, 405, rfl⟩
abbrev main_v132 : Ref sig .tc := ⟨.hbm, 406, rfl⟩
abbrev main_v133 : Ref sig .tc := ⟨.hbm, 407, rfl⟩
abbrev main_v134 : Ref sig .tc := ⟨.hbm, 408, rfl⟩
abbrev main_v135 : Ref sig .tc := ⟨.hbm, 409, rfl⟩
abbrev main_v136 : Ref sig .tc := ⟨.hbm, 410, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel at bit patterns runs to the end, leaves its arguments unchanged and every semaphore at zero. -/
theorem frame_kernel : Cert.quiescent_Kernel := fun m ρ _ => Cert.Kernel.Gen.frame m ρ

/-- The kernel over the extended reals runs to the end, leaves its arguments unchanged and every semaphore at zero. -/
theorem frame_kernelIdeal : Cert.quiescent_KernelIdeal := fun m ρ _ => Cert.KernelIdeal.Gen.frame m ρ

/-- The reference over the extended reals runs to the end and leaves its arguments unchanged; it has no semaphore. -/
theorem frame_referenceIdeal : Cert.quiescent_ReferenceIdeal := fun m ρ _ =>
  (θ_run Cert.ReferenceIdeal.defs _ _).mono (fun _ h => ⟨fun c => (h c).2, Idealize.ShloMosaic.sem_eq_zero_of_no_sems (by decide) _⟩)
    (Cert.ReferenceIdeal.Value.run m ρ)

/-- Each named constant of the idealized kernel stands for the value that its table gives the name. -/
theorem preserves : Cert.preserves_Kernel_KernelIdeal :=
  ⟨IdealRules.named_const.statement Cert.KernelIdeal.κ "mask" .f32 0xF149F2CA#32 ⊥ rfl,
   IdealRules.named_const.statement Cert.KernelIdeal.κ "slope_log2e" .f32 0x3F13BB63#32
     (((2 / 5) * (Real.log 2)⁻¹ : ℝ) : EReal) rfl⟩

end Cert.Proof

end
-- ==== Proof.Math.lean ====
module

public import Idealize.ShloMosaic.PureOps.Ideal

@[expose] public section

noncomputable section

/-! The real arithmetic of the network: both programs are shown to compute these functions. -/

namespace Cert.Net

open Finset

/-- The head that a channel belongs to. -/
def hd (k : Fin 512) : Fin 8 := ⟨k.val / 64, by omega⟩
/-- A channel's place within its head. -/
def ln (k : Fin 512) : Fin 64 := ⟨k.val % 64, by omega⟩
/-- The channel at place `o` of head `h`. -/
def col (h : Fin 8) (o : Fin 64) : Fin 512 := ⟨h.val * 64 + o.val, by omega⟩

theorem hd_col (h : Fin 8) (o : Fin 64) : hd (col h o) = h := Fin.ext (by simp only [hd, col]; omega)
theorem ln_col (h : Fin 8) (o : Fin 64) : ln (col h o) = o := Fin.ext (by simp only [ln, col]; omega)
theorem col_hd_ln (k : Fin 512) : col (hd k) (ln k) = k := Fin.ext (by simp only [hd, ln, col]; omega)

/-- Channels are pairs of a head and a place. -/
def colEquiv : Fin 8 × Fin 64 ≃ Fin 512 where
  toFun p := col p.1 p.2
  invFun k := (hd k, ln k)
  left_inv p := by simp only [hd_col, ln_col]
  right_inv k := col_hd_ln k

/-- A sum over the channels that keeps one head's is the sum over that head's places. -/
theorem sum_head (f : Fin 512 → ℝ) (h : Fin 8) :
    ∑ k, (if hd k = h then f k else 0) = ∑ o, f (col h o) := by
  rw [← colEquiv.sum_comp, Fintype.sum_prod_type]
  rw [Finset.sum_eq_single h]
  · refine sum_congr rfl fun o _ => ?_
    show (if hd (col h o) = h then _ else _) = _
    rw [hd_col, if_pos rfl]; rfl
  · intro g _ hg
    refine sum_eq_zero fun o _ => ?_
    show (if hd (col g o) = h then _ else _) = _
    rw [hd_col, if_neg hg]
  · intro hh; exact absurd (mem_univ h) hh

/-- The leaky rectifier of slope 1/5. -/
def leaky (v : ℝ) : ℝ := if 0 ≤ v then v else 1 / 5 * v

/-- It is three fifths of its argument and two fifths of the argument's absolute value. -/
theorem leaky_eq (v : ℝ) : leaky v = 3 / 5 * v + 2 / 5 * |v| := by
  unfold leaky
  split
  · rename_i h; rw [abs_of_nonneg h]; ring
  · rename_i h; rw [abs_of_neg (not_le.mp h)]; ring

/-- The attention score of a source row `l` for a target row `r` at head `h`. -/
def score (att : Fin 8 → Fin 64 → ℝ) (l r : Fin 512 → ℝ) (h : Fin 8) : ℝ :=
  ∑ o, leaky (r (col h o) + l (col h o)) * att h o

/-- The attention's output for the target row `r` at channel `k`, the sources the rows of `xl`. -/
def attn (att : Fin 8 → Fin 64 → ℝ) (xl : Fin 19 → Fin 512 → ℝ) (r : Fin 512 → ℝ) (k : Fin 512) : ℝ :=
  (∑ j, Real.exp (score att (xl j) r (hd k)) * xl j k) / ∑ j, Real.exp (score att (xl j) r (hd k))

/-- The exponential linear unit. -/
def elu (v : ℝ) : ℝ := if 0 < v then v else Real.exp v - 1

/-- A row times a matrix. -/
def mm {K : ℕ} (w : Fin K → Fin 512 → ℝ) (x : Fin K → ℝ) (c : Fin 512) : ℝ := ∑ k, x k * w k c

/-- The pooled channel `k` of the rows `h`, each row weighted by the exponential of its score. -/
def pool (wp : Fin 512 → ℝ) (h : Fin 19 → Fin 512 → ℝ) (k : Fin 512) : ℝ :=
  (∑ n, Real.exp (∑ c, h n c * wp c) * h n k) / ∑ n, Real.exp (∑ c, h n c * wp c)

/-- A row's first layer. -/
def row1 (wl wr : Fin 128 → Fin 512 → ℝ) (att : Fin 8 → Fin 64 → ℝ) (x : Fin 19 → Fin 128 → ℝ) (xi : Fin 128 → ℝ)
    (k : Fin 512) : ℝ :=
  elu (attn att (fun j => mm wl (x j)) (mm wr xi) k)

/-- A row's second layer. -/
def row2 (wl wr : Fin 512 → Fin 512 → ℝ) (att : Fin 8 → Fin 64 → ℝ) (x : Fin 19 → Fin 512 → ℝ) (xi : Fin 512 → ℝ)
    (k : Fin 512) : ℝ :=
  attn att (fun j => mm wl (x j)) (mm wr xi) k

/-! ## Weights that differ by a factor -/

/-- A weighted mean does not change when every weight is multiplied by one positive number. -/
theorem mean_shift {ι : Type} [Fintype ι] (f g : ι → ℝ) (c : ℝ) (hfg : ∀ j, f j = g j - c) (x : ι → ℝ) :
    (∑ j, Real.exp (f j) * x j) / ∑ j, Real.exp (f j) = (∑ j, Real.exp (g j) * x j) / ∑ j, Real.exp (g j) := by
  have e : ∀ j, Real.exp (f j) = Real.exp (-c) * Real.exp (g j) := fun j => by
    rw [hfg j, ← Real.exp_add]; congr 1; ring
  simp only [e, mul_assoc, ← mul_sum]
  exact mul_div_mul_left _ _ (Real.exp_pos _).ne'

/-! ## The score in base two -/

/-- The kernel's scale: two fifths of the logarithm of e to base two. -/
def slope : ℝ := 2 / 5 * (Real.log 2)⁻¹

/-- The kernel's score, in base two and without the target's share. -/
def score2 (att : Fin 8 → Fin 64 → ℝ) (l r : Fin 512 → ℝ) (h : Fin 8) : ℝ :=
  ∑ k, |r k + l k| * (slope * (if hd k = h then att (hd k) (ln k) else 0)) +
    3 / 2 * ∑ k, l k * (slope * (if hd k = h then att (hd k) (ln k) else 0))

theorem sum_head_mul (att : Fin 8 → Fin 64 → ℝ) (f : Fin 512 → ℝ) (h : Fin 8) :
    ∑ k, f k * (slope * (if hd k = h then att (hd k) (ln k) else 0)) = slope * ∑ o, f (col h o) * att h o := by
  have e : ∀ k, f k * (slope * (if hd k = h then att (hd k) (ln k) else 0))
      = if hd k = h then slope * (f k * att (hd k) (ln k)) else 0 := fun k => by
    split
    · ring
    · ring
  simp only [e]
  rw [sum_head, mul_sum]
  simp only [hd_col, ln_col]

/-- Times log 2, the kernel's score is the score less a share that only the target has. -/
theorem log_two_mul_score2 (att : Fin 8 → Fin 64 → ℝ) (l r : Fin 512 → ℝ) (h : Fin 8) :
    Real.log 2 * score2 att l r h = score att l r h - 3 / 5 * ∑ o, r (col h o) * att h o := by
  have hl : Real.log 2 ≠ 0 := (Real.log_pos (by norm_num)).ne'
  unfold score2 score
  rw [sum_head_mul, sum_head_mul]
  have e : ∀ o, leaky (r (col h o) + l (col h o)) * att h o
      = 3 / 5 * (r (col h o) * att h o) + (3 / 5 * (l (col h o) * att h o)
        + 2 / 5 * (|r (col h o) + l (col h o)| * att h o)) := fun o => by rw [leaky_eq]; ring
  simp only [e, sum_add_distrib, ← mul_sum]
  unfold slope
  field_simp
  ring

/-- The weight to base two. -/
theorem two_rpow_score2 (att : Fin 8 → Fin 64 → ℝ) (l r : Fin 512 → ℝ) (h : Fin 8) :
    Real.rpow 2 (score2 att l r h) = Real.exp (score att l r h - 3 / 5 * ∑ o, r (col h o) * att h o) := by
  show (2 : ℝ) ^ (score2 att l r h) = _
  rw [Real.rpow_def_of_pos (by norm_num), log_two_mul_score2]

/-- The kernel's attention is the attention. -/
theorem attn_of_score2 (att : Fin 8 → Fin 64 → ℝ) (xl : Fin 19 → Fin 512 → ℝ) (r : Fin 512 → ℝ) (k : Fin 512) :
    (∑ j, Real.rpow 2 (score2 att (xl j) r (hd k)) * xl j k) * (1 / ∑ j, Real.rpow 2 (score2 att (xl j) r (hd k)))
      = attn att xl r k := by
  simp only [two_rpow_score2]
  rw [mul_one_div]
  exact mean_shift _ _ _ (fun _ => rfl) _

/-- The reference's attention, with a maximum subtracted and the denominator guarded, is the attention. -/
theorem attn_of_guarded (att : Fin 8 → Fin 64 → ℝ) (xl : Fin 19 → Fin 512 → ℝ) (r : Fin 512 → ℝ) (k : Fin 512)
    (M eps : ℝ) (hM : ∃ j, M = score att (xl j) r (hd k)) (he : eps ≤ 1) :
    ∑ j, xl j k * (Real.exp (score att (xl j) r (hd k) - M)
        / max (∑ i, Real.exp (score att (xl i) r (hd k) - M)) eps) = attn att xl r k := by
  have h1 : (1 : ℝ) ≤ ∑ i, Real.exp (score att (xl i) r (hd k) - M) := by
    obtain ⟨j, hj⟩ := hM
    have : Real.exp (score att (xl j) r (hd k) - M) = 1 := by rw [hj, sub_self, Real.exp_zero]
    rw [← this]
    exact single_le_sum (f := fun i => Real.exp (score att (xl i) r (hd k) - M))
      (fun i _ => (Real.exp_pos _).le) (mem_univ j)
  rw [max_eq_left (he.trans h1)]
  have := mean_shift (fun j => score att (xl j) r (hd k) - M) (fun j => score att (xl j) r (hd k)) M (fun _ => rfl)
    (fun j => xl j k)
  unfold attn
  rw [← this, sum_div]
  refine sum_congr rfl fun j _ => ?_
  ring

/-- The pooling with a number subtracted from every score and the weights normalized first. -/
theorem pool_of_shifted (wp : Fin 512 → ℝ) (h : Fin 19 → Fin 512 → ℝ) (k : Fin 512) (c : ℝ) (s : Fin 19 → ℝ)
    (hs : ∀ n, s n = ∑ c, h n c * wp c - c) :
    ∑ n, Real.exp (s n) / (∑ i, Real.exp (s i)) * h n k = pool wp h k := by
  unfold pool
  rw [← mean_shift s (fun n => ∑ c, h n c * wp c) c hs (fun n => h n k), sum_div]
  refine sum_congr rfl fun n _ => ?_
  ring

/-! ## Sums over edges -/

/-- Over edges that are all the pairs, each once, a sum of the edges into `n` is a sum over the sources. -/
theorem sum_into {M : Type} [AddCommMonoid M] (e : Fin 361 ≃ Fin 19 × Fin 19) (f : Fin 19 → Fin 19 → M) (n : Fin 19) :
    ∑ i, (if n = (e i).2 then f (e i).1 (e i).2 else 0) = ∑ j, f j n := by
  rw [← e.symm.sum_comp, Fintype.sum_prod_type]
  simp only [Equiv.apply_symm_apply]
  refine sum_congr rfl fun j _ => ?_
  rw [Finset.sum_ite_eq]
  simp

/-! ## Extended reals that are reals -/

/-- A sum of reals, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum over 24 whose last five terms are zero. -/
theorem sum_24 {M : Type} [AddCommMonoid M] (f : Fin 24 → M) (h : ∀ j : Fin 24, 19 ≤ j.val → f j = 0) :
    ∑ j, f j = ∑ j : Fin 19, f ⟨j.val, by omega⟩ := by
  have := Fin.sum_univ_add (a := 19) (b := 5) f
  rw [this]
  have h0 : ∑ i : Fin 5, f (Fin.natAdd 19 i) = 0 := sum_eq_zero fun i _ => h _ (by simp)
  rw [h0, add_zero]
  rfl

/-- The fold of the maximum from minus infinity over terms of which each is a real or minus infinity, one a real. -/
theorem fold_max_real {ι : Type} [Fintype ι] (f : ι → EReal) (g : ι → ℝ) (P : ι → Prop)
    (hP : ∀ i, P i → f i = (g i : EReal)) (hN : ∀ i, ¬ P i → f i = ⊥) (hex : ∃ i, P i) :
    ∃ i, P i ∧ (Finset.univ : Finset ι).fold max ⊥ f = (g i : EReal) := by
  obtain ⟨i0, h0⟩ := hex
  have hf : (Finset.univ : Finset ι).fold max ⊥ f = (Finset.univ : Finset ι).sup f := rfl
  obtain ⟨i, -, hi⟩ := Finset.exists_mem_eq_sup (Finset.univ : Finset ι) ⟨i0, mem_univ i0⟩ f
  rw [hf, hi]
  by_cases hp : P i
  · exact ⟨i, hp, hP i hp⟩
  · exfalso
    have : f i0 ≤ f i := hi ▸ Finset.le_sup (mem_univ i0)
    rw [hN i hp, hP i0 h0] at this
    exact EReal.coe_ne_bot _ (le_bot_iff.mp this)

end Cert.Net

end
-- ==== Proof.Body.lean ====
module

public import proofs.«01_k».proof.Proof.Math
public import proofs.«01_k».proof.Proof.Gen.KernelIdeal.Frame
public import Idealize.ShloMosaic.Lib.Pointwise
public import Idealize.ShloMosaic.Lib.Pipeline.ValueKit

@[expose] public section

set_option maxRecDepth 16384

noncomputable section

/-! The kernel's body on one block of 16 graphs, read at an index. -/

namespace Cert.Net

open Idealize.ShloMosaic Cert.KernelIdeal Cert.KernelIdeal.Gen

/-! ## Scalars -/

/-- The mask constant is minus infinity. -/
theorem named_mask : Named.named (F := Ideal) κ "mask" (φ := .f32) 0xF149F2CA#32 = (⊥ : EReal) :=
  IdealRules.named_const.ideal_named_scalar _ _ _ _ rfl

/-- The scale constant is `slope`. -/
theorem named_slope : Named.named (F := Ideal) κ "slope_log2e" (φ := .f32) 0x3F13BB63#32 = ((slope : ℝ) : EReal) :=
  IdealRules.named_const.ideal_named_scalar _ _ _ _ rfl

/-- The literal 1.5. -/
theorem ofBits_three_halves : Ideal.ofBits .f32 0x3FC00000#32 = ((3 / 2 : ℝ) : EReal) := by
  simp [Ideal.ofBits, Ideal.ieee, -EReal.coe_mul]
  norm_num

/-- The literal minus infinity. -/
theorem ofBits_neg_inf : Ideal.ofBits .f32 0xFF800000#32 = (⊥ : EReal) := by
  simp [Ideal.ofBits, Ideal.ieee]

/-- The absolute value of a real. -/
theorem absf_coe {φ : FTy} (a : ℝ) : FloatOps.absf (F := Ideal) (φ := φ) ((a : ℝ) : EReal) = ((|a| : ℝ) : EReal) := by
  show max (a : EReal) (-(a : EReal)) = _
  rw [← EReal.coe_neg, ← EReal.coe_strictMono.monotone.map_max]
  rfl

/-- The quotient of reals. -/
theorem div_coe_coe (a b : ℝ) (h : b ≠ 0) : Ideal.div (a : EReal) (b : EReal) = ((a / b : ℝ) : EReal) := by
  rw [Ideal.div_coe h, ← EReal.coe_mul, mul_one_div]

/-- The exponential linear unit over the extended reals, at a real. -/
theorem elu_coe (v : ℝ) :
    (if (0 : EReal) < (v : EReal) then (v : EReal) else Ideal.exp (v : EReal) - 1) = ((elu v : ℝ) : EReal) := by
  unfold elu
  rw [apply_ite (fun r : ℝ => (r : EReal)), Ideal.exp_coe]
  refine if_congr EReal.coe_pos rfl ?_
  rw [EReal.coe_sub]
  rfl

/-! ## The attention on plain functions -/

/-- The kernel's score, its operands real, is `score2`. -/
theorem score_real (att : Fin 8 → Fin 64 → ℝ) (B : Fin 512 → Fin 8 → EReal)
    (hB : ∀ k h, B k h = ((if hd k = h then att (hd k) (ln k) else 0 : ℝ) : EReal))
    (l r : Fin 512 → EReal) (L R : Fin 512 → ℝ) (hl : ∀ k, l k = (L k : EReal)) (hr : ∀ k, r k = (R k : EReal)) (h : Fin 8) :
    ∑ x, FloatOps.absf (F := Ideal) (φ := .bf16) (r x + l x) * (((slope : ℝ) : EReal) * B x h)
        + ((3 / 2 : ℝ) : EReal) * ∑ x, l x * (((slope : ℝ) : EReal) * B x h)
      = ((score2 att L R h : ℝ) : EReal) := by
  simp only [hB, hl, hr, ← EReal.coe_add, absf_coe, ← EReal.coe_mul, coe_sum]
  rfl

/-- The exponential to base two of the masked score: the weight for a node, zero for padding. -/
theorem weight_real (s : ℝ) (m : EReal) (j : Fin 24) (a b : EReal) (hab : a + b = (s : EReal))
    (hm : m = if j.val < 19 then 0 else ⊥) :
    FloatOps.exp2 (F := Ideal) (φ := .f32) (a + (b + m))
      = if j.val < 19 then ((Real.rpow 2 s : ℝ) : EReal) else 0 := by
  show Ideal.exp2 (a + (b + m)) = _
  rw [← add_assoc, hab, hm]
  split
  · rw [add_zero, Ideal.exp2_coe]
  · rw [EReal.add_bot, Ideal.exp2_bot]

/-- Weighted sum times the reciprocal of the sum of the weights, the reciprocal spread from heads to channels by a
    matrix of zeros and ones: the attention. -/
theorem attn_real (att : Fin 8 → Fin 64 → ℝ) (XL : Fin 24 → Fin 512 → ℝ) (R : Fin 512 → ℝ) (E : Fin 24 → Fin 8 → EReal)
    (hE : ∀ j h, E j h = if j.val < 19 then ((Real.rpow 2 (score2 att (XL j) R h) : ℝ) : EReal) else 0)
    (xl : Fin 24 → EReal) (ex8 : Fin 8 → EReal) (k : Fin 512) (hxl : ∀ j, xl j = (XL j k : EReal))
    (hex : ∀ h, ex8 h = if h = hd k then 1 else 0) :
    (∑ j, E j (hd k) * xl j) * (∑ h, Ideal.div 1 (∑ j, E j h) * ex8 h)
      = ((attn att (fun j : Fin 19 => XL ⟨j.val, by omega⟩) R k : ℝ) : EReal) := by
  have hden : ∀ h, ∑ j, E j h = ((∑ j : Fin 19, Real.rpow 2 (score2 att (XL ⟨j.val, by omega⟩) R h) : ℝ) : EReal) := by
    intro h
    rw [sum_24 _ (fun j hj => by rw [hE, if_neg (by omega)]), ← coe_sum]
    refine Finset.sum_congr rfl fun j _ => ?_
    rw [hE, if_pos j.isLt]
  have hnum : ∑ j, E j (hd k) * xl j
      = ((∑ j : Fin 19, Real.rpow 2 (score2 att (XL ⟨j.val, by omega⟩) R (hd k)) * XL ⟨j.val, by omega⟩ k : ℝ) : EReal) := by
    rw [sum_24 _ (fun j hj => by rw [hE, if_neg (by omega), zero_mul]), ← coe_sum]
    refine Finset.sum_congr rfl fun j _ => ?_
    rw [hE, if_pos j.isLt, hxl, EReal.coe_mul]
  have hrec : ∑ h, Ideal.div 1 (∑ j, E j h) * ex8 h
      = ((1 / ∑ j : Fin 19, Real.rpow 2 (score2 att (XL ⟨j.val, by omega⟩) R (hd k)) : ℝ) : EReal) := by
    have hpos : (∑ j : Fin 19, Real.rpow 2 (score2 att (XL ⟨j.val, by omega⟩) R (hd k))) ≠ 0 :=
      (Finset.sum_pos (fun j _ => Real.rpow_pos_of_pos (by norm_num) _) ⟨0, Finset.mem_univ _⟩).ne'
    simp only [hex, mul_ite, mul_one, mul_zero]
    rw [Finset.sum_ite_eq', if_pos (Finset.mem_univ _), hden]
    exact div_coe_coe 1 _ hpos
  rw [hnum, hrec, ← EReal.coe_mul, attn_of_score2]

/-- The masked softmax pooling over 24 rows, of which the last five are padding. -/
theorem pool_real (s : Fin 24 → EReal) (H : Fin 24 → Fin 512 → ℝ) (wp : Fin 512 → ℝ)
    (hs : ∀ j, s j = if j.val < 19 then ((∑ c, H j c * wp c : ℝ) : EReal) else ⊥) (k : Fin 512) :
    ∑ j, Ideal.div (Ideal.exp (s j - Finset.univ.fold max ⊥ s)) (∑ i, Ideal.exp (s i - Finset.univ.fold max ⊥ s))
        * ((H j k : ℝ) : EReal)
      = ((pool wp (fun n : Fin 19 => H ⟨n.val, by omega⟩) k : ℝ) : EReal) := by
  obtain ⟨i0, -, hM⟩ := fold_max_real s (fun j : Fin 24 => (∑ c, H j c * wp c : ℝ)) (fun j => j.val < 19)
    (fun j hj => by rw [hs, if_pos hj]) (fun j hj => by rw [hs, if_neg hj]) ⟨0, by decide⟩
  rw [hM]
  set M : ℝ := ∑ c, H i0 c * wp c with hMdef
  have he : ∀ j : Fin 24, Ideal.exp (s j - (M : EReal))
      = if j.val < 19 then ((Real.exp (∑ c, H j c * wp c - M) : ℝ) : EReal) else 0 := by
    intro j
    rw [hs]
    split
    · rw [← EReal.coe_sub, Ideal.exp_coe]
    · rw [EReal.bot_sub, Ideal.exp_bot]
  simp only [he]
  have hsum : (∑ i : Fin 24, if i.val < 19 then ((Real.exp (∑ c, H i c * wp c - M) : ℝ) : EReal) else 0)
      = ((∑ i : Fin 19, Real.exp (∑ c, H ⟨i.val, by omega⟩ c * wp c - M) : ℝ) : EReal) := by
    rw [sum_24 _ (fun j hj => by rw [if_neg (by omega)]), ← coe_sum]
    refine Finset.sum_congr rfl fun j _ => ?_
    rw [if_pos j.isLt]
  have hpos : (∑ i : Fin 19, Real.exp (∑ c, H ⟨i.val, by omega⟩ c * wp c - M)) ≠ 0 :=
    (Finset.sum_pos (fun j _ => Real.exp_pos _) ⟨0, Finset.mem_univ _⟩).ne'
  rw [hsum]
  rw [sum_24 (fun j : Fin 24 => Ideal.div (if j.val < 19 then ((Real.exp (∑ c, H j c * wp c - M) : ℝ) : EReal) else 0)
      ((∑ i : Fin 19, Real.exp (∑ c, H ⟨i.val, by omega⟩ c * wp c - M) : ℝ) : EReal) * ((H j k : ℝ) : EReal)) (fun j hj => by
    rw [if_neg (by omega), ← EReal.coe_zero, div_coe_coe _ _ hpos, zero_div, EReal.coe_zero, zero_mul]),
    ← pool_of_shifted wp (fun n : Fin 19 => H ⟨n.val, by omega⟩) k M _ (fun _ => rfl)]
  refine (Finset.sum_congr rfl fun j _ => ?_).trans (coe_sum _ _)
  rw [if_pos j.isLt, div_coe_coe _ _ hpos, ← EReal.coe_mul]

/-! ## The payloads -/

/-- Eight slices laid side by side, the `h`-th holding the channels of head `h`, are read at a channel. -/
theorem ladder {M : Type} (F : Fin 8 → Fin 512 → M) (k : Fin 512) :
    (if h : k.val < 64 then F 0 k
     else if h : k.val - 64 < 64 then F 1 ⟨64 + (k.val - 64), by omega⟩
     else if h : k.val - 64 - 64 < 64 then F 2 ⟨128 + (k.val - 64 - 64), by omega⟩
     else if h : k.val - 64 - 64 - 64 < 64 then F 3 ⟨192 + (k.val - 64 - 64 - 64), by omega⟩
     else if h : k.val - 64 - 64 - 64 - 64 < 64 then F 4 ⟨256 + (k.val - 64 - 64 - 64 - 64), by omega⟩
     else if h : k.val - 64 - 64 - 64 - 64 - 64 < 64 then F 5 ⟨320 + (k.val - 64 - 64 - 64 - 64 - 64), by omega⟩
     else if h : k.val - 64 - 64 - 64 - 64 - 64 - 64 < 64 then F 6 ⟨384 + (k.val - 64 - 64 - 64 - 64 - 64 - 64), by omega⟩
     else F 7 ⟨448 + (k.val - 64 - 64 - 64 - 64 - 64 - 64 - 64), by omega⟩) = F (hd k) k := by
  have key : ∀ (a : Fin 8) (b : Fin 512), a.val = k.val / 64 → b.val = k.val → F a b = F (hd k) k := fun a b ha hb => by
    rw [show a = hd k from Fin.ext ha, show b = k from Fin.ext hb]
  have k2 := k.isLt
  repeat' split
  all_goals (refine key _ _ ?_ ?_ <;> first | omega | rfl | (simp; omega))

variable (X : Fin 16 → Fin 24 → Fin 128 → ℝ) (Wl1 Wr1 : Fin 128 → Fin 512 → ℝ) (att1 : Fin 8 → Fin 64 → ℝ)
  (v0 : Vec Ideal S384x128 .f32) (v5 : Vec Ideal S384x1 .f32) (v13 v15 : Vec Ideal S128x512 .bf16)
  (v17 : Vec Ideal S512x8 .f32) (v69 : Vec Ideal S8x512 .f32)

/-- The mask's column at a row: zero for a node, minus infinity for padding. -/
theorem pay3_apply
    (h5 : ∀ (g : Fin 16) (j : Fin 24), v5 (ix2 ⟨g.val * 24 + j.val, by omega⟩ 0) < (0 : EReal) ↔ ¬ j.val < 19)
    (g : Fin 16) (j : Fin 24) :
    k0_pay3 (F := Ideal) v5 (ix2 ⟨g.val * 24 + j.val, by omega⟩ 0) = if j.val < 19 then (0 : EReal) else ⊥ := by
  pointwise [k0_pay3]
  rw [named_mask]
  by_cases hj : j.val < 19
  · rw [if_neg (fun h => (h5 g j).mp h hj), if_pos hj]
  · rw [if_pos ((h5 g j).mpr hj), if_neg hj]

/-- The source rows of the first layer. -/
theorem pay6_apply (h0 : ∀ (g : Fin 16) (i : Fin 24) f, v0 (ix2 ⟨g.val * 24 + i.val, by omega⟩ f) = (X g i f : EReal))
    (h13 : ∀ f c, v13 (ix2 f c) = (Wl1 f c : EReal)) (g : Fin 16) (i : Fin 24) (k : Fin 512) :
    k0_pay6 (F := Ideal) v0 v13 (ix2 ⟨g.val * 24 + i.val, by omega⟩ k) = ((mm Wl1 (X g i) k : ℝ) : EReal) := by
  pointwise [k0_pay6, k0_pay4]
  simp only [h0, h13, ← EReal.coe_mul, coe_sum]
  rfl

/-- The weight of the source row `j` for the target row `i` in the first layer. -/
theorem weight1_apply (h0 : ∀ (g : Fin 16) (i : Fin 24) f, v0 (ix2 ⟨g.val * 24 + i.val, by omega⟩ f) = (X g i f : EReal))
    (h13 : ∀ f c, v13 (ix2 f c) = (Wl1 f c : EReal)) (h15 : ∀ f c, v15 (ix2 f c) = (Wr1 f c : EReal))
    (h17 : ∀ k h, v17 (ix2 k h) = ((if hd k = h then att1 (hd k) (ln k) else 0 : ℝ) : EReal))
    (h5 : ∀ (g : Fin 16) (j : Fin 24), v5 (ix2 ⟨g.val * 24 + j.val, by omega⟩ 0) < (0 : EReal) ↔ ¬ j.val < 19)
    (g : Fin 16) (i j : Fin 24) (h : Fin 8) :
    FloatOps.exp2 (F := Ideal) (φ := .f32)
        (k0_pay8 (F := Ideal) v0 v13 v15 v17 (ix2 ⟨g.val * 576 + i.val * 24 + j.val, by omega⟩ h)
          + k0_pay7 (F := Ideal) v0 v5 v13 v17 (ix2 ⟨g.val * 24 + j.val, by omega⟩ h))
      = if j.val < 19 then ((Real.rpow 2 (score2 att1 (mm Wl1 (X g j)) (mm Wr1 (X g i)) h) : ℝ) : EReal) else 0 := by
  have e8 : k0_pay8 (F := Ideal) v0 v13 v15 v17 (ix2 ⟨g.val * 576 + i.val * 24 + j.val, by omega⟩ h)
      = ∑ x, FloatOps.absf (F := Ideal) (φ := .bf16) (((mm Wr1 (X g i) x : ℝ) : EReal) + ((mm Wl1 (X g j) x : ℝ) : EReal))
          * (((slope : ℝ) : EReal) * v17 (ix2 x h)) := by
    have ei : (⟨g.val * 576 + i.val * 24 + j.val, by omega⟩ : Fin 9216) = ⟨(g.val * 24 + i.val) * 24 + j.val, by omega⟩ :=
      Fin.ext (by simp only []; omega)
    rw [ei]
    pointwise [k0_pay8, k0_pay5, k0_pay4]
    rw [named_slope]
    simp only [pay6_apply X Wl1 v0 v13 h0 h13, h0, h15, ← EReal.coe_mul, coe_sum]
    rfl
  have e7 : k0_pay7 (F := Ideal) v0 v5 v13 v17 (ix2 ⟨g.val * 24 + j.val, by omega⟩ h)
      = ((3 / 2 : ℝ) : EReal) * (∑ x, ((mm Wl1 (X g j) x : ℝ) : EReal) * (((slope : ℝ) : EReal) * v17 (ix2 x h)))
          + k0_pay3 (F := Ideal) v5 (ix2 ⟨g.val * 24 + j.val, by omega⟩ 0) := by
    pointwise [k0_pay7, k0_pay5]
    rw [named_slope, ofBits_three_halves]
    simp only [pay6_apply X Wl1 v0 v13 h0 h13]
  rw [e8, e7]
  exact weight_real _ _ j _ _ (score_real att1 (fun k h => v17 (ix2 k h)) h17 _ _ _ _ (fun _ => rfl) (fun _ => rfl) h)
    (pay3_apply v5 h5 g j)

/-- The first layer at a row and a channel. -/
theorem layer1_apply (h0 : ∀ (g : Fin 16) (i : Fin 24) f, v0 (ix2 ⟨g.val * 24 + i.val, by omega⟩ f) = (X g i f : EReal))
    (h13 : ∀ f c, v13 (ix2 f c) = (Wl1 f c : EReal)) (h15 : ∀ f c, v15 (ix2 f c) = (Wr1 f c : EReal))
    (h17 : ∀ k h, v17 (ix2 k h) = ((if hd k = h then att1 (hd k) (ln k) else 0 : ℝ) : EReal))
    (h5 : ∀ (g : Fin 16) (j : Fin 24), v5 (ix2 ⟨g.val * 24 + j.val, by omega⟩ 0) < (0 : EReal) ↔ ¬ j.val < 19)
    (h69 : ∀ h k, v69 (ix2 h k) = if h = hd k then (1 : EReal) else 0)
    (g : Fin 16) (i : Fin 24) (k : Fin 512) :
    k0_pay9 (F := Ideal) (k0_pay6 v0 v13) (k0_pay7 v0 v5 v13 v17) (k0_pay8 v0 v13 v15 v17) v69
        (ix2 ⟨g.val * 24 + i.val, by omega⟩ k)
      = ((row1 Wl1 Wr1 att1 (fun j : Fin 19 => X g ⟨j.val, by omega⟩) (X g i) k : ℝ) : EReal) := by
  have hw := fun j h => weight1_apply X Wl1 Wr1 att1 v0 v5 v13 v15 v17 h0 h13 h15 h17 h5 g i j h
  have h6 := fun j => pay6_apply X Wl1 v0 v13 h0 h13 g j k
  generalize k0_pay6 (F := Ideal) v0 v13 = v24 at *
  generalize k0_pay7 (F := Ideal) v0 v5 v13 v17 = v29 at *
  generalize k0_pay8 (F := Ideal) v0 v13 v15 v17 = v38 at *
  pointwise [k0_pay9]
  rw [ladder (fun h k => ∑ x : Fin 24, FloatOps.exp2 (F := Ideal) (φ := .f32) (v38 (ix2 ⟨g.val * 576 + i.val * 24 + x.val, by omega⟩ h)
      + v29 (ix2 ⟨g.val * 24 + x.val, by omega⟩ h)) * v24 (ix2 ⟨g.val * 24 + x.val, by omega⟩ k)) k]
  rw [attn_real att1 (fun j => mm Wl1 (X g j)) (mm Wr1 (X g i))
    (fun x h => FloatOps.exp2 (F := Ideal) (φ := .f32) (v38 (ix2 ⟨g.val * 576 + i.val * 24 + x.val, by omega⟩ h)
      + v29 (ix2 ⟨g.val * 24 + x.val, by omega⟩ h))) hw
    (fun x => v24 (ix2 ⟨g.val * 24 + x.val, by omega⟩ k)) (fun x => v69 (ix2 x k)) k h6 (fun h => h69 h k)]
  exact elu_coe _

variable (H : Fin 16 → Fin 24 → Fin 512 → ℝ) (Wl2 Wr2 : Fin 512 → Fin 512 → ℝ) (att2 : Fin 8 → Fin 64 → ℝ)
  (v11 : FVec Ideal S384x1 .f32) (v81 : FVec Ideal S384x512 .bf16) (v83 v85 : FVec Ideal S512x512 .bf16)
  (v86 : Vec Ideal S512x8 .f32) (v138 : Vec Ideal S8x512 .f32)

/-- The source rows of the second layer. -/
theorem pay12_apply (h81 : ∀ (g : Fin 16) (i : Fin 24) c, v81 (ix2 ⟨g.val * 24 + i.val, by omega⟩ c) = (H g i c : EReal))
    (h83 : ∀ f c, v83 (ix2 f c) = (Wl2 f c : EReal)) (g : Fin 16) (i : Fin 24) (k : Fin 512) :
    k0_pay12 (F := Ideal) v81 v83 (ix2 ⟨g.val * 24 + i.val, by omega⟩ k) = ((mm Wl2 (H g i) k : ℝ) : EReal) := by
  pointwise [k0_pay12]
  simp only [h81, h83, ← EReal.coe_mul, coe_sum]
  rfl

/-- The weight of the source row `j` for the target row `i` in the second layer. -/
theorem pay13_apply (h81 : ∀ (g : Fin 16) (i : Fin 24) c, v81 (ix2 ⟨g.val * 24 + i.val, by omega⟩ c) = (H g i c : EReal))
    (h83 : ∀ f c, v83 (ix2 f c) = (Wl2 f c : EReal)) (h85 : ∀ f c, v85 (ix2 f c) = (Wr2 f c : EReal))
    (h86 : ∀ k h, v86 (ix2 k h) = ((if hd k = h then att2 (hd k) (ln k) else 0 : ℝ) : EReal))
    (h11 : ∀ (g : Fin 16) (j : Fin 24), v11 (ix2 ⟨g.val * 24 + j.val, by omega⟩ 0) = if j.val < 19 then (0 : EReal) else ⊥)
    (g : Fin 16) (i j : Fin 24) (h : Fin 8) :
    k0_pay13 (F := Ideal) v11 v81 v83 v85 v86 (ix4 g i j h)
      = if j.val < 19 then ((Real.rpow 2 (score2 att2 (mm Wl2 (H g j)) (mm Wr2 (H g i)) h) : ℝ) : EReal) else 0 := by
  have e : k0_pay13 (F := Ideal) v11 v81 v83 v85 v86 (ix4 g i j h)
      = FloatOps.exp2 (F := Ideal) (φ := .f32)
        ((∑ x, FloatOps.absf (F := Ideal) (φ := .bf16) (((mm Wr2 (H g i) x : ℝ) : EReal) + ((mm Wl2 (H g j) x : ℝ) : EReal))
          * (((slope : ℝ) : EReal) * v86 (ix2 x h)))
        + (((3 / 2 : ℝ) : EReal) * (∑ x, ((mm Wl2 (H g j) x : ℝ) : EReal) * (((slope : ℝ) : EReal) * v86 (ix2 x h)))
          + v11 (ix2 ⟨g.val * 24 + j.val, by omega⟩ 0))) := by
    pointwise [k0_pay13]
    rw [named_slope, ofBits_three_halves]
    simp only [pay12_apply H Wl2 v81 v83 h81 h83, h81, h85, ← EReal.coe_mul, coe_sum]
    rfl
  rw [e]
  exact weight_real _ _ j _ _ (score_real att2 (fun k h => v86 (ix2 k h)) h86 _ _ _ _ (fun _ => rfl) (fun _ => rfl) h)
    (h11 g j)

/-- The second layer at a row and a channel: the weighted sums times the spread reciprocals. -/
theorem layer2_apply (h81 : ∀ (g : Fin 16) (i : Fin 24) c, v81 (ix2 ⟨g.val * 24 + i.val, by omega⟩ c) = (H g i c : EReal))
    (h83 : ∀ f c, v83 (ix2 f c) = (Wl2 f c : EReal)) (h85 : ∀ f c, v85 (ix2 f c) = (Wr2 f c : EReal))
    (h86 : ∀ k h, v86 (ix2 k h) = ((if hd k = h then att2 (hd k) (ln k) else 0 : ℝ) : EReal))
    (h11 : ∀ (g : Fin 16) (j : Fin 24), v11 (ix2 ⟨g.val * 24 + j.val, by omega⟩ 0) = if j.val < 19 then (0 : EReal) else ⊥)
    (h138 : ∀ h k, v138 (ix2 h k) = if h = hd k then (1 : EReal) else 0)
    (g : Fin 16) (i : Fin 24) (k : Fin 512) :
    k0_pay14 (F := Ideal) v11 v81 v83 v85 v86 (ix3 g i k)
        * (∑ h, Ideal.div 1 (k0_pay15 (F := Ideal) v11 v81 v83 v85 v86 (ix4 g i h 0)) * v138 (ix2 h k))
      = ((row2 Wl2 Wr2 att2 (fun j : Fin 19 => H g ⟨j.val, by omega⟩) (H g i) k : ℝ) : EReal) := by
  have hw := fun j h => pay13_apply H Wl2 Wr2 att2 v11 v81 v83 v85 v86 h81 h83 h85 h86 h11 g i j h
  have h12 := fun j => pay12_apply H Wl2 v81 v83 h81 h83 g j k
  have e14 : k0_pay14 (F := Ideal) v11 v81 v83 v85 v86 (ix3 g i k)
      = ∑ x : Fin 24, k0_pay13 (F := Ideal) v11 v81 v83 v85 v86 (ix4 g i x (hd k))
          * k0_pay12 (F := Ideal) v81 v83 (ix2 ⟨g.val * 24 + x.val, by omega⟩ k) := by
    pointwise [k0_pay14]
    exact ladder (fun h k => ∑ x : Fin 24, k0_pay13 (F := Ideal) v11 v81 v83 v85 v86 (ix4 g i x h)
          * k0_pay12 (F := Ideal) v81 v83 (ix2 ⟨g.val * 24 + x.val, by omega⟩ k)) k
  have e15 : ∀ h, k0_pay15 (F := Ideal) v11 v81 v83 v85 v86 (ix4 g i h 0)
      = ∑ x : Fin 24, k0_pay13 (F := Ideal) v11 v81 v83 v85 v86 (ix4 g i x h) := fun h => by
    pointwise [k0_pay15]
  rw [e14]
  simp only [e15]
  exact attn_real att2 (fun j => mm Wl2 (H g j)) (mm Wr2 (H g i))
    (fun x h => k0_pay13 (F := Ideal) v11 v81 v83 v85 v86 (ix4 g i x h)) hw
    (fun x => k0_pay12 (F := Ideal) v81 v83 (ix2 ⟨g.val * 24 + x.val, by omega⟩ k)) (fun x => v138 (ix2 x k)) k h12
    (fun h => h138 h k)

/-- A select on the comparison of a row's number with 19. -/
theorem select_lt_19 (j : Fin 24) (a b : EReal) :
    Scalar.select (IntOp.cmpi CmpIPredicate.slt (BitVec.ofNat 32 j.val) 19#32) a b = if j.val < 19 then a else b := by
  have : ∀ j : Fin 24, IntOp.cmpi CmpIPredicate.slt (BitVec.ofNat 32 j.val) 19#32 = if j.val < 19 then 1#1 else 0#1 := by
    decide
  rw [this]
  split <;> rfl

/-- The pooling and the last product, from the second layer's rows. -/
theorem tail_apply (H2 : Fin 16 → Fin 24 → Fin 512 → ℝ) (wp : Fin 512 → ℝ)
    (v132 : FVec Ideal S16x24x512 .f32) (v134 : FVec Ideal S16x24x8x1 .f32) (v144 v163 : Vec Ideal S512x1 .f32)
    (hH : ∀ g i k, v132 (ix3 g i k) * (∑ h, Ideal.div 1 (v134 (ix4 g i h 0)) * v138 (ix2 h k)) = ((H2 g i k : ℝ) : EReal))
    (h144 : ∀ k, v144 (ix2 k 0) = (wp k : EReal)) (g : Fin 16) :
    k0_pay1 (F := Ideal) k0_pay2 v132 v134 v138 v144 v163 (ix2 g 0)
      = ∑ k, ((pool wp (fun n : Fin 19 => H2 g ⟨n.val, by omega⟩) k : ℝ) : EReal) * v163 (ix2 k 0) := by
  pointwise [k0_pay1, k0_pay2]
  rw [named_mask, ofBits_neg_inf]
  simp only [hH, h144, select_lt_19, ← EReal.coe_mul, coe_sum]
  refine Finset.sum_congr rfl fun k _ => ?_
  rw [pool_real (fun j => if j.val < 19 then ((∑ c, H2 g j c * wp c : ℝ) : EReal) else ⊥) (H2 g) wp (fun _ => rfl) k]

/-- The output's block, at a graph of the block: the pooled rows of the two layers times the last column. -/
theorem block_apply (Wp : Fin 512 → ℝ)
    (x0 : Vec Ideal S384x128 .f32) (x1 x2 : Vec Ideal S128x512 .bf16) (x3 : Vec Ideal S512x8 .f32)
    (x4 x5 : Vec Ideal S512x512 .bf16) (x6 : Vec Ideal S512x8 .f32) (x7 : Vec Ideal S8x512 .f32)
    (x8 : Vec Ideal S384x1 .f32) (x9 x10 : Vec Ideal S512x1 .f32)
    (h0 : ∀ (g : Fin 16) (i : Fin 24) f, x0 (ix2 ⟨g.val * 24 + i.val, by omega⟩ f) = (X g i f : EReal))
    (h1 : ∀ f c, x1 (ix2 f c) = (Wl1 f c : EReal)) (h2 : ∀ f c, x2 (ix2 f c) = (Wr1 f c : EReal))
    (h3 : ∀ k h, x3 (ix2 k h) = ((if hd k = h then att1 (hd k) (ln k) else 0 : ℝ) : EReal))
    (h4 : ∀ f c, x4 (ix2 f c) = (Wl2 f c : EReal)) (h5 : ∀ f c, x5 (ix2 f c) = (Wr2 f c : EReal))
    (h6 : ∀ k h, x6 (ix2 k h) = ((if hd k = h then att2 (hd k) (ln k) else 0 : ℝ) : EReal))
    (h7 : ∀ h k, x7 (ix2 h k) = if h = hd k then (1 : EReal) else 0)
    (h8 : ∀ (g : Fin 16) (j : Fin 24), x8 (ix2 ⟨g.val * 24 + j.val, by omega⟩ 0) < (0 : EReal) ↔ ¬ j.val < 19)
    (h9 : ∀ k, x9 (ix2 k 0) = (Wp k : EReal)) (g : Fin 16) :
    out0_11 (F := Ideal) x0 x1 x2 x3 x4 x5 x6 x7 x8 x9 x10 (ix2 g 0)
      = ∑ k, ((pool Wp (fun n : Fin 19 => row2 Wl2 Wr2 att2
          (fun j : Fin 19 => row1 Wl1 Wr1 att1 (fun i : Fin 19 => X g ⟨i.val, by omega⟩) (X g ⟨j.val, by omega⟩))
          (row1 Wl1 Wr1 att1 (fun i : Fin 19 => X g ⟨i.val, by omega⟩) (X g ⟨n.val, by omega⟩))) k : ℝ) : EReal)
          * x10 (ix2 k 0) := by
  frame_out
  unfold k0_pay16 k0_pay17 k0_pay18 k0_pay19 r0_0 r0_1 r0_2 r0_3 r0_4 r0_5
  simp (disch := decide) only [View.ld_unit_lit']
  have h4' : ∀ f c, k0_pay10 (F := Ideal) x4 (ix2 f c) = (Wl2 f c : EReal) := fun f c => by
    pointwise [k0_pay10]
    exact h4 f c
  have h5' : ∀ f c, k0_pay11 (F := Ideal) x5 (ix2 f c) = (Wr2 f c : EReal) := fun f c => by
    pointwise [k0_pay11]
    exact h5 f c
  have hm := pay3_apply x8 h8
  have hl := layer1_apply X Wl1 Wr1 att1 x0 x8 x1 x2 x3 x7 h0 h1 h2 h3 h8 h7
  generalize k0_pay10 (F := Ideal) x4 = y4 at *
  generalize k0_pay11 (F := Ideal) x5 = y5 at *
  generalize k0_pay3 (F := Ideal) x8 = y8 at *
  generalize k0_pay9 (F := Ideal) _ _ _ _ = y0 at *
  have hk := layer2_apply (fun g i => row1 Wl1 Wr1 att1 (fun i : Fin 19 => X g ⟨i.val, by omega⟩) (X g i)) Wl2 Wr2 att2
    y8 y0 y4 y5 x6 x7 hl h4' h5' h6 hm h7
  generalize k0_pay14 (F := Ideal) _ _ _ _ _ = z at *
  generalize k0_pay15 (F := Ideal) _ _ _ _ _ = w at *
  exact tail_apply x7 _ Wp z w x9 x10 hk h9 g

end Cert.Net

end
-- ==== Proof.Host.lean ====
module

public import proofs.«01_k».proof.Proof.Body

@[expose] public section

set_option maxRecDepth 16384

noncomputable section

/-! The arrays that the kernel's windows stage, as the host operations before the region leave them. -/

namespace Cert.Net

open Idealize.ShloMosaic Cert.KernelIdeal Cert.KernelIdeal.Gen

/-- The node features: transposed, padded from 19 to 24 rows, flattened to rows. -/
def nfRows (x : FVec Ideal S512x128x19 .f32) : FVec Ideal S12288x128 .f32 :=
  shapeCast S12288x128 (pad S512x24x128 ![0, 0, 0] ![0, 5, 0] ![0, 0, 0] (transpose S512x19x128 [0, 2, 1] x transposes_S512x128x19_S512x19x128_0_2_1)
    (sitofp (F := Ideal) .f32 (constantI S_ 32 0#32)) pads_S512x19x128_S512x24x128_000_050_000 h_S_) shapeCasts_S512x24x128_S12288x128

/-- The identity of the heads. -/
def eye8 : FVec Ideal S8x8 .f32 :=
  uitofp (F := Ideal) .f32 (cmpi .eq (addi (iotaInDim S8x8 32 0) (broadcastInDim S8x8 ![] bcast_S_S8x8 (constantI S_ 32 0#32))) (iotaInDim S8x8 32 1))

/-- The indicator of a channel's head, 512 by 8. -/
def blocks : FVec Ideal S512x8 .f32 :=
  shapeCast S512x8 (mulf (F := Ideal)
    (broadcastInDim S8x64x8x1 ![0, 1, 2, 3] bcast_S8x1x8x1_S8x64x8x1_0_1_2_3 (broadcastInDim S8x1x8x1 ![0, 2] bcast_S8x8_S8x1x8x1_0_2 eye8))
    (broadcastInDim S8x64x8x1 ![0, 1, 2, 3] bcast_S1x64x1x1_S8x64x8x1_0_1_2_3 (broadcastInDim S1x64x1x1 ![1, 3] bcast_S64x1_S1x64x1x1_1_3
      (broadcastInDim S64x1 ![] bcast_S_S64x1 (constant (F := Ideal) S_ .f32 0x3F800000#32))))) shapeCasts_S8x64x8x1_S512x8

/-- A layer's attention vector spread over the indicator. -/
def attBlocks (a : FVec Ideal S8x64 .f32) : FVec Ideal S512x8 .f32 :=
  mulf (F := Ideal) (broadcastInDim S512x8 ![0, 1] bcast_S512x1_S512x8_0_1 (shapeCast S512x1 a shapeCasts_S8x64_S512x1)) blocks

variable (m : (ℓ : Loc nD τ sig) → Buf (Elt Ideal) ℓ) (c : Dev nD)

/-- The buffer `main_v2` holds the padded features. -/
theorem V_v2 : V m c main_v2 = nfRows (m ((c.tc : Thread nD τ).loc main_arg0)) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v25` holds the first source weight. -/
theorem V_v25 : V m c main_v25 = m ((c.tc : Thread nD τ).loc main_arg1) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v26` holds the first target weight. -/
theorem V_v26 : V m c main_v26 = m ((c.tc : Thread nD τ).loc main_arg3) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v27` holds the second source weight. -/
theorem V_v27 : V m c main_v27 = m ((c.tc : Thread nD τ).loc main_arg7) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v28` holds the second target weight. -/
theorem V_v28 : V m c main_v28 = m ((c.tc : Thread nD τ).loc main_arg9) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v13` holds the first attention vector, spread. -/
theorem V_v13 : V m c main_v13 = attBlocks (m ((c.tc : Thread nD τ).loc main_arg5)) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v16` holds the second attention vector, spread. -/
theorem V_v16 : V m c main_v16 = attBlocks (m ((c.tc : Thread nD τ).loc main_arg11)) := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The buffer `main_v17` holds the transposed indicator. -/
theorem V_v17 : V m c main_v17 = transpose S8x512 [1, 0] blocks transposes_S512x8_S8x512_1_0 := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The features' rows at an index: the feature of a node, zero in the padding. -/
theorem nfRows_apply (x : FVec Ideal S512x128x19 .f32) (b : Fin 512) (i : Fin 24) (f : Fin 128) :
    nfRows x (ix2 ⟨b.val * 24 + i.val, by omega⟩ f) = if h : i.val < 19 then x (ix3 b f ⟨i.val, h⟩) else (0 : EReal) := by
  have e : FloatOps.sitofp (F := Ideal) .f32 0#32 = (0 : EReal) := by
    show (((0#32).toInt : ℝ) : EReal) = 0
    simp
  pointwise [nfRows]
  rw [e]

/-- The indicator at an index. -/
theorem blocks_apply (k : Fin 512) (h : Fin 8) : blocks (ix2 k h) = if hd k = h then (1 : EReal) else 0 := by
  have e : ∀ a b : Fin 8, IntOp.cmpi CmpIPredicate.eq (IntOp.addi (BitVec.ofNat 32 a.val) 0#32) (BitVec.ofNat 32 b.val)
      = if a = b then 1#1 else 0#1 := by decide
  pointwise [blocks, eye8]
  rw [show k.val / 64 = (hd k).val from rfl, e]
  split
  · show (((1#1).toNat : ℝ) : EReal) = 1
    simp
  · show (((0#1).toNat : ℝ) : EReal) = 0
    simp

/-- A spread attention vector at an index. -/
theorem attBlocks_apply (a : FVec Ideal S8x64 .f32) (k : Fin 512) (h : Fin 8) :
    attBlocks a (ix2 k h) = if hd k = h then a (ix2 (hd k) (ln k)) else (0 : EReal) := by
  pointwise [attBlocks]
  rw [blocks_apply, mul_ite, mul_one, mul_zero]
  rfl

/-- The rows' numbers modulo 24, as jax's remainder computes them. -/
def rem24 : IVec S384 32 :=
  let d : IVec S_ 32 := select (cmpi .eq (constantI S_ 32 24#32) (constantI S_ 32 0#32)) (constantI S_ 32 1#32) (constantI S_ 32 24#32)
  let r : IVec S384 32 := Host.remsi (iotaInDim S384 32 0) (broadcastInDim S384 ![] bcast_S_S384 d)
  select (andi (cmpi .ne (cmpi .slt r (broadcastInDim S384 ![] bcast_S_S384 (constantI S_ 32 0#32)))
      (broadcastInDim S384 ![] bcast_S_S384 (cmpi .slt d (constantI S_ 32 0#32))))
    (cmpi .ne r (broadcastInDim S384 ![] bcast_S_S384 (constantI S_ 32 0#32))))
    (addi r (broadcastInDim S384 ![] bcast_S_S384 d)) r

/-- The mask's column before its lift: negative at padding, zero at a node. -/
def negRows : FVec Ideal S384x1 .f32 :=
  shapeCast S384x1 (select (cmpi .sge rem24 (broadcastInDim S384 ![] bcast_S_S384 (constantI S_ 32 19#32)))
    (broadcastInDim S384 ![] bcast_S_S384 (constant (F := Ideal) S_ .f32 0xF149F2CA#32))
    (broadcastInDim S384 ![] bcast_S_S384 (constant (F := Ideal) S_ .f32 0x00000000#32))) shapeCasts_S384_S384x1

/-- The buffer `main_v24` holds the mask's column. -/
theorem V_v24 : V m c main_v24 = negRows := by
  dsimp only [V, V0, hostOps0, hostOps0_1, hostOps0_2, hostOps0_3, hostOps0_4, hostOps0_5, hostOps0_6, hostOps0_7, hostOps0_8,
    List.flatten_cons, List.flatten_nil, List.cons_append, List.nil_append, List.append_nil]
  after_results
  rfl

/-- The literal that marks padding is negative. -/
theorem ofBits_neg : Ideal.ofBits .f32 0xF149F2CA#32 < 0 := by
  simp [Ideal.ofBits, Ideal.ieee, -EReal.coe_mul]

/-- The remainder at a row. -/
theorem rem24_apply (g : Fin 16) (j : Fin 24) : rem24 (ix1 ⟨g.val * 24 + j.val, by omega⟩) = BitVec.ofNat 32 j.val := by
  pointwise [rem24]
  revert g j
  decide +kernel

/-- The mask's column is negative exactly at padding. -/
theorem negRows_apply (g : Fin 16) (j : Fin 24) :
    negRows (ix2 ⟨g.val * 24 + j.val, by omega⟩ 0) < (0 : EReal) ↔ ¬ j.val < 19 := by
  have e : IntOp.cmpi CmpIPredicate.sge (BitVec.ofNat 32 j.val) 19#32 = if j.val < 19 then 0#1 else 1#1 := by
    revert j
    decide
  pointwise [negRows]
  rw [rem24_apply, e]
  by_cases h : j.val < 19 <;> simp [h, Scalar.select, ofBits_neg]

end Cert.Net

end
-- ==== Proof.Blocks.lean ====
module

public import proofs.«01_k».proof.Proof.Host

@[expose] public section

set_option maxRecDepth 16384

noncomputable section

/-! The kernel's input blocks at a grid point, read off the staged arrays. -/

namespace Cert.Net

open Idealize.ShloMosaic Cert.KernelIdeal Cert.KernelIdeal.Gen

variable (m : (ℓ : Loc nD τ sig) → Buf (Elt Ideal) ℓ) (c : Dev nD)

/-- The feature window's block index is the grid point. -/
theorem idx0 : ∀ t : Fin cfg0.N, win0_0.index t = ![t.val, 0] := by decide +kernel
/-- The output window's block index is the grid point. -/
theorem idx11 : ∀ t : Fin cfg0.N, win0_11.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel

theorem iblk0 (t : Fin 32) (g : Fin 16) (i : Fin 24) (f : Fin 128) :
    iblk m c 0 t (ix2 ⟨g.val * 24 + i.val, by omega⟩ f)
      = V m c main_v2 (ix2 ⟨(t.val * 16 + g.val) * 24 + i.val, by omega⟩ f) := by
  blk_ext [iblk, idx0 t]
theorem iblk1 (t : Fin 32) (a : Fin 128) (b : Fin 512) : iblk m c 1 t (ix2 a b) = V m c main_v25 (ix2 a b) := by
  blk_ext [iblk, idx1 t]
theorem iblk2 (t : Fin 32) (a : Fin 128) (b : Fin 512) : iblk m c 2 t (ix2 a b) = V m c main_v26 (ix2 a b) := by
  blk_ext [iblk, idx2 t]
theorem iblk3 (t : Fin 32) (a : Fin 512) (b : Fin 8) : iblk m c 3 t (ix2 a b) = V m c main_v13 (ix2 a b) := by
  blk_ext [iblk, idx3 t]
theorem iblk4 (t : Fin 32) (a : Fin 512) (b : Fin 512) : iblk m c 4 t (ix2 a b) = V m c main_v27 (ix2 a b) := by
  blk_ext [iblk, idx4 t]
theorem iblk5 (t : Fin 32) (a : Fin 512) (b : Fin 512) : iblk m c 5 t (ix2 a b) = V m c main_v28 (ix2 a b) := by
  blk_ext [iblk, idx5 t]
theorem iblk6 (t : Fin 32) (a : Fin 512) (b : Fin 8) : iblk m c 6 t (ix2 a b) = V m c main_v16 (ix2 a b) := by
  blk_ext [iblk, idx6 t]
theorem iblk7 (t : Fin 32) (a : Fin 8) (b : Fin 512) : iblk m c 7 t (ix2 a b) = V m c main_v17 (ix2 a b) := by
  blk_ext [iblk, idx7 t]
theorem iblk8 (t : Fin 32) (a : Fin 384) (b : Fin 1) : iblk m c 8 t (ix2 a b) = V m c main_v24 (ix2 a b) := by
  blk_ext [iblk, idx8 t]
theorem iblk9 (t : Fin 32) (a : Fin 512) (b : Fin 1) : iblk m c 9 t (ix2 a b) = V m c main_arg13 (ix2 a b) := by
  blk_ext [iblk, idx9 t]
theorem iblk10 (t : Fin 32) (a : Fin 512) (b : Fin 1) : iblk m c 10 t (ix2 a b) = V m c main_arg15 (ix2 a b) := by
  blk_ext [iblk, idx10 t]

end Cert.Net

end
-- ==== Proof.KVal.lean ====
module

public import proofs.«01_k».proof.Proof.Blocks

@[expose] public section

set_option maxRecDepth 16384

noncomputable section

/-! The kernel's result buffer after the run, at a graph. -/

namespace Cert.Net

open Idealize.ShloMosaic Cert.KernelIdeal Cert.KernelIdeal.Gen

/-- The network's pooled channel `k` for graph `b`. -/
def net (X : Fin 512 → Fin 19 → Fin 128 → ℝ) (Wl1 Wr1 : Fin 128 → Fin 512 → ℝ) (att1 : Fin 8 → Fin 64 → ℝ)
    (Wl2 Wr2 : Fin 512 → Fin 512 → ℝ) (att2 : Fin 8 → Fin 64 → ℝ) (Wp : Fin 512 → ℝ) (b k : Fin 512) : ℝ :=
  pool Wp (fun n => row2 Wl2 Wr2 att2 (fun j => row1 Wl1 Wr1 att1 (X b) (X b j)) (row1 Wl1 Wr1 att1 (X b) (X b n))) k

variable (m : (ℓ : Loc nD τ sig) → Buf (Elt Ideal) ℓ) (c : Dev nD)
variable (X : Fin 512 → Fin 19 → Fin 128 → ℝ) (Wl1 Wr1 : Fin 128 → Fin 512 → ℝ) (att1 : Fin 8 → Fin 64 → ℝ)
    (Wl2 Wr2 : Fin 512 → Fin 512 → ℝ) (att2 : Fin 8 → Fin 64 → ℝ) (Wp : Fin 512 → ℝ)

set_option maxHeartbeats 1000000 in
/-- The output's block of a grid point, at a graph of the block. -/
theorem block_out
    (hx : ∀ b f n, m ((c.tc : Thread nD τ).loc main_arg0) (ix3 b f n) = (X b n f : EReal))
    (h1 : ∀ f k, m ((c.tc : Thread nD τ).loc main_arg1) (ix2 f k) = (Wl1 f k : EReal))
    (h3 : ∀ f k, m ((c.tc : Thread nD τ).loc main_arg3) (ix2 f k) = (Wr1 f k : EReal))
    (h5 : ∀ h o, m ((c.tc : Thread nD τ).loc main_arg5) (ix2 h o) = (att1 h o : EReal))
    (h7 : ∀ f k, m ((c.tc : Thread nD τ).loc main_arg7) (ix2 f k) = (Wl2 f k : EReal))
    (h9 : ∀ f k, m ((c.tc : Thread nD τ).loc main_arg9) (ix2 f k) = (Wr2 f k : EReal))
    (h11 : ∀ h o, m ((c.tc : Thread nD τ).loc main_arg11) (ix2 h o) = (att2 h o : EReal))
    (h13 : ∀ k, m ((c.tc : Thread nD τ).loc main_arg13) (ix2 k 0) = (Wp k : EReal)) (t : Fin 32) (g : Fin 16) :
    out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 g 0)
      = ∑ k, ((net X Wl1 Wr1 att1 Wl2 Wr2 att2 Wp ⟨t.val * 16 + g.val, by omega⟩ k : ℝ) : EReal)
        * m ((c.tc : Thread nD τ).loc main_arg15) (ix2 k 0) := by
  have e := block_apply (fun g i f => if h : i.val < 19 then X ⟨t.val * 16 + g.val, by omega⟩ ⟨i.val, h⟩ f else 0)
    Wl1 Wr1 att1 Wl2 Wr2 att2 Wp (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (fun g i f => by
      rw [iblk0 m c t g i f, V_v2 m c]
      refine (nfRows_apply _ ⟨t.val * 16 + g.val, by omega⟩ i f).trans ?_
      split
      · exact hx _ _ _
      · rfl)
    (fun f k => by rw [iblk1 m c t f k, V_v25 m c]; exact h1 f k)
    (fun f k => by rw [iblk2 m c t f k, V_v26 m c]; exact h3 f k)
    (fun k h => by
      rw [iblk3 m c t k h, V_v13 m c]
      refine (attBlocks_apply _ k h).trans ?_
      rw [apply_ite (fun r : ℝ => (r : EReal))]
      exact if_congr Iff.rfl (h5 _ _) rfl)
    (fun f k => by rw [iblk4 m c t f k, V_v27 m c]; exact h7 f k)
    (fun f k => by rw [iblk5 m c t f k, V_v28 m c]; exact h9 f k)
    (fun k h => by
      rw [iblk6 m c t k h, V_v16 m c]
      refine (attBlocks_apply _ k h).trans ?_
      rw [apply_ite (fun r : ℝ => (r : EReal))]
      exact if_congr Iff.rfl (h11 _ _) rfl)
    (fun h k => by
      rw [iblk7 m c t h k, V_v17 m c]
      pointwise
      rw [blocks_apply]
      exact if_congr eq_comm rfl rfl)
    (fun g j => by rw [iblk8 m c t _ 0, V_v24 m c]; exact negRows_apply g j)
    (fun k => by rw [iblk9 m c t k 0, V_main_arg13 m c]; exact h13 k) g
  refine e.trans (Finset.sum_congr rfl fun k _ => ?_)
  rw [iblk10 m c t k 0, V_main_arg15 m c]
  unfold net
  simp only [Fin.is_lt, dite_true, Fin.eta]

/-- The region's output array at the end of the run. -/
theorem arr_out
    (hx : ∀ b f n, m ((c.tc : Thread nD τ).loc main_arg0) (ix3 b f n) = (X b n f : EReal))
    (h1 : ∀ f k, m ((c.tc : Thread nD τ).loc main_arg1) (ix2 f k) = (Wl1 f k : EReal))
    (h3 : ∀ f k, m ((c.tc : Thread nD τ).loc main_arg3) (ix2 f k) = (Wr1 f k : EReal))
    (h5 : ∀ h o, m ((c.tc : Thread nD τ).loc main_arg5) (ix2 h o) = (att1 h o : EReal))
    (h7 : ∀ f k, m ((c.tc : Thread nD τ).loc main_arg7) (ix2 f k) = (Wl2 f k : EReal))
    (h9 : ∀ f k, m ((c.tc : Thread nD τ).loc main_arg9) (ix2 f k) = (Wr2 f k : EReal))
    (h11 : ∀ h o, m ((c.tc : Thread nD τ).loc main_arg11) (ix2 h o) = (att2 h o : EReal))
    (h13 : ∀ k, m ((c.tc : Thread nD τ).loc main_arg13) (ix2 k 0) = (Wp k : EReal)) :
    (dats m 0 c).arrAt 11 (cfgs 0).N = fun y : S512x1.Idx => ∑ k, ((net X Wl1 Wr1 att1 Wl2 Wr2 att2 Wp (y 0) k : ℝ) : EReal)
      * m ((c.tc : Thread nD τ).loc main_arg15) (ix2 k 0) := by
  refine (dats m 0 c).arrAt_eq_of_covers 11 _ (by decide +kernel) fun t hf y => ?_
  blk_simp
  rw [after0_11]
  have t32 : t.val < 32 := t.isLt
  obtain ⟨g, hg⟩ : ∃ g : Fin 16, y = ix2 g (0 : Fin 1) := ⟨y 0, by
    funext a
    match a with
    | ⟨0, _⟩ => rfl
    | ⟨1, _⟩ => exact Fin.ext (Nat.lt_one_iff.mp (y 1).isLt)⟩
  have hb : ((win0_11.blk t).view.emb y 0 : Fin 512) = (⟨t.val * 16 + g.val, by omega⟩ : Fin 512) := Fin.ext (by
    rw [hg]
    blk_simp [idx11 t])
  rw [hb, hg]
  exact block_out m c X Wl1 Wr1 att1 Wl2 Wr2 att2 Wp hx h1 h3 h5 h7 h9 h11 h13 t g

/-- The result buffer after the host operations that follow the region. -/
theorem tail_out (G : FVec Ideal S512x1 .f32) (hG : (dats m 0 c).arrAt 11 (cfgs 0).N = G) (b : Fin 512) :
    Pipeline.afterTail₀ cfgs (dats m) 0 (V0 m) [hostOps1] c main_v33 (ix1 b)
      = G (ix2 b 0) + m ((c.tc : Thread nD τ).loc main_arg16) (ix1 0) := by
  have e : Pipeline.afterTail₀ cfgs (dats m) 0 (V0 m) [hostOps1] c main_v33
      = shapeCast S512 (addf (F := Ideal) (φ := .f32) G (broadcastInDim S512x1 ![0, 1] bcast_S1x1_S512x1_0_1
          (broadcastInDim S1x1 ![1] bcast_S1_S1x1_1 (m ((c.tc : Thread nD τ).loc main_arg16))))) shapeCasts_S512x1_S512 := by
    have a29 : Pipeline.withArrays (cfgs 0).spec c (V0 m c) (fun w => (dats m 0 c).arrAt w (cfgs 0).N) (Proc.devRef .tc main_v29) = G :=
      (Pipeline.withArrays_arr spec0 (by decide) c (V0 m c) (fun w => (dats m 0 c).arrAt w (cfgs 0).N) 11).trans hG
    have a16 : Pipeline.withArrays (cfgs 0).spec c (V0 m c) (fun w => (dats m 0 c).arrAt w (cfgs 0).N) (Proc.devRef .tc main_arg16)
        = m ((c.tc : Thread nD τ).loc main_arg16) :=
      (Pipeline.withArrays_of_ne _ c (V0 m c) _ main_arg16 (by exact (by decide : ∀ w, Pipeline.arrRef spec0 w ≠ main_arg16))).trans
        (V_main_arg16 m c)
    unfold Pipeline.afterTail₀
    generalize Pipeline.withArrays (cfgs 0).spec c (V0 m c) (fun w => (dats m 0 c).arrAt w (cfgs 0).N) = W at *
    dsimp only [hostOps1, List.flatten_cons, List.flatten_nil, List.cons_append, List.nil_append, List.append_nil]
    after_results
    rw [a29, a16]
    rfl
  rw [e]
  pointwise

end Cert.Net

end
-- ==== Proof.Layer.lean ====
module

public import proofs.«01_k».proof.Proof.Body
public import proofs.«01_k».proof.Proof.Gen.ReferenceIdeal.Read
public import Idealize.ShloMosaic.Lib.Pointwise

@[expose] public section

set_option maxRecDepth 16384

noncomputable section

/-! The reference's graph attention layer, operation by operation, read at an index. -/

namespace Cert.Net.Ref

open Idealize.ShloMosaic Cert.ReferenceIdeal Cert.ReferenceIdeal.Gen

/-! ## The operations -/

/-- Node numbers with jax's wrap of negative ones, as a column. -/
def wrap (s : IVec S361 32) : IVec S361x1 32 :=
  broadcastInDim S361x1 ![0] bcast_S361_S361x1_0
    (select (cmpi .slt s (broadcastInDim S361 ![] bcast_S_S361 (constantI S_ 32 0#32)))
      (addi s (broadcastInDim S361 ![] bcast_S_S361 (constantI S_ 32 19#32))) s)

/-- Which node numbers are in range. -/
def inRange (w : IVec S361x1 32) : IVec S361 1 :=
  Host.reduce IntOp.andi
    (andi (cmpi .sge w (broadcastInDim S361x1 ![] bcast_S_S361x1 (constantI S_ 32 0#32)))
      (cmpi .sle w (broadcastInDim S361x1 ![0, 1] bcast_S1x1_S361x1_0_1 (broadcastInDim S1x1 ![1] bcast_S1_S1x1_1 (constantI S1 32 18#32)))))
    (constantI S_ 1 1#1) reducesTo_S361x1_S361_d1 h_S_

/-- The rows of a per-node array at the node of each edge. -/
def take4 (a : FVec Ideal S512x19x8x64 .f32) (s : IVec S361 32) : FVec Ideal S512x361x8x64 .f32 :=
  select (broadcastInDim S512x361x8x64 ![1] bcast_S361_S512x361x8x64_1 (inRange (wrap s)))
    (Host.gather gather_S512x19x8x64_S361x1_S512x361x8x64_023_1_n_n_1_1_5121864 a (wrap s))
    (broadcastInDim S512x361x8x64 ![] bcast_S_S512x361x8x64 (constant (F := Ideal) S_ .f32 0x7FC00000#32))

/-- The same of an array with one number per head. -/
def take3 (a : FVec Ideal S512x19x8 .f32) (s : IVec S361 32) : FVec Ideal S512x361x8 .f32 :=
  select (broadcastInDim S512x361x8 ![1] bcast_S361_S512x361x8_1 (inRange (wrap s)))
    (Host.gather gather_S512x19x8_S361x1_S512x361x8_02_1_n_n_1_1_51218 a (wrap s))
    (broadcastInDim S512x361x8 ![] bcast_S_S512x361x8 (constant (F := Ideal) S_ .f32 0x7FC00000#32))

/-- The leaky rectifier of slope one fifth. -/
def leak (v : FVec Ideal S512x361x8x64 .f32) : FVec Ideal S512x361x8x64 .f32 :=
  select (cmpf (F := Ideal) .oge v (broadcastInDim S512x361x8x64 ![] bcast_S_S512x361x8x64 (constant (F := Ideal) S_ .f32 0x00000000#32))) v
    (mulf (F := Ideal) (broadcastInDim S512x361x8x64 ![] bcast_S_S512x361x8x64
      (Host.divf (F := Ideal) (constant (F := Ideal) S_ .f32 0x3F800000#32) (constant (F := Ideal) S_ .f32 0x40A00000#32))) v)

/-- An edge's score per head. -/
def edgeScore (xj xi : FVec Ideal S512x361x8x64 .f32) (a : FVec Ideal S8x64 .f32) : FVec Ideal S512x361x8 .f32 :=
  Host.reduceAdd (F := Ideal) (mulf (F := Ideal) (leak (addf (F := Ideal) xi xj))
      (broadcastInDim S512x361x8x64 ![0, 1, 2, 3] bcast_S1x1x8x64_S512x361x8x64_0_1_2_3 (broadcastInDim S1x1x8x64 ![2, 3] bcast_S8x64_S1x1x8x64_2_3 a)))
    (constant (F := Ideal) S_ .f32 0x00000000#32) reducesTo_S512x361x8x64_S512x361x8_d3 h_S_

/-- Which edges end at a node. -/
def into (d : IVec S361 32) : IVec S1x19x361x1 1 :=
  broadcastInDim S1x19x361x1 ![1, 2] bcast_S19x361_S1x19x361x1_1_2
    (cmpi .eq (broadcastInDim S19x361 ![0, 1] bcast_S19x1_S19x361_0_1 (broadcastInDim S19x1 ![0] bcast_S19_S19x1_0 (iotaInDim S19 32 0)))
      (broadcastInDim S19x361 ![0, 1] bcast_S1x361_S19x361_0_1 (broadcastInDim S1x361 ![1] bcast_S361_S1x361_1 d)))

/-- A per-edge number kept at the edges into a node, a fill elsewhere. -/
def keep3 (d : IVec S361 32) (v : FVec Ideal S512x361x8 .f32) (fill : FVec Ideal S_ .f32) : FVec Ideal S512x19x361x8 .f32 :=
  select (broadcastInDim S512x19x361x8 ![0, 1, 2, 3] bcast_S1x19x361x1_S512x19x361x8_0_1_2_3 (into d))
    (broadcastInDim S512x19x361x8 ![0, 1, 2, 3] bcast_S512x1x361x8_S512x19x361x8_0_1_2_3
      (broadcastInDim S512x1x361x8 ![0, 2, 3] bcast_S512x361x8_S512x1x361x8_0_2_3 v))
    (broadcastInDim S512x19x361x8 ![] bcast_S_S512x19x361x8 fill)

/-- The maximum over the edges into a node. -/
def rawMax (v : FVec Ideal S512x19x361x8 .f32) : FVec Ideal S512x19x8 .f32 :=
  Host.reduce (FloatOps.maximumf (F := Ideal)) v (constant (F := Ideal) S_ .f32 0xFF800000#32) reducesTo_S512x19x361x8_S512x19x8_d2 h_S_

/-- Zero in place of what is not finite. -/
def finiteOr (v : FVec Ideal S512x19x8 .f32) : FVec Ideal S512x19x8 .f32 :=
  select (cmpf (F := Ideal) .olt (Host.absf (F := Ideal) v) (broadcastInDim S512x19x8 ![] bcast_S_S512x19x8 (constant (F := Ideal) S_ .f32 0x7F800000#32))) v
    (broadcastInDim S512x19x8 ![] bcast_S_S512x19x8 (constant (F := Ideal) S_ .f32 0x00000000#32))

/-- The maximum over the edges into a node, zero where it is not finite. -/
def nodeMax (d : IVec S361 32) (v : FVec Ideal S512x361x8 .f32) : FVec Ideal S512x19x8 .f32 :=
  finiteOr (rawMax (keep3 d v (constant (F := Ideal) S_ .f32 0xFF800000#32)))

/-- The sum over the edges into a node. -/
def nodeSum (d : IVec S361 32) (v : FVec Ideal S512x361x8 .f32) : FVec Ideal S512x19x8 .f32 :=
  Host.reduceAdd (F := Ideal) (keep3 d v (constant (F := Ideal) S_ .f32 0x00000000#32))
    (constant (F := Ideal) S_ .f32 0x00000000#32) reducesTo_S512x19x361x8_S512x19x8_d2 h_S_

/-- A weight divided by the guarded sum of weights of its target. -/
def weightOf (d : IVec S361 32) (ex : FVec Ideal S512x361x8 .f32) : FVec Ideal S512x361x8 .f32 :=
  Host.divf (F := Ideal) ex (maximumf (F := Ideal) (take3 (nodeSum d ex) d)
    (broadcastInDim S512x361x8 ![] bcast_S_S512x361x8 (constant (F := Ideal) S_ .f32 0x24E69595#32)))

/-- The weighted messages summed at each node. -/
def gatherUp (d : IVec S361 32) (xj : FVec Ideal S512x361x8x64 .f32) (al : FVec Ideal S512x361x8 .f32) : FVec Ideal S512x19x8x64 .f32 :=
  Host.reduceAdd (F := Ideal)
    (select (broadcastInDim S512x19x361x8x64 ![0, 1, 2, 3, 4] bcast_S1x19x361x1x1_S512x19x361x8x64_0_1_2_3_4
        (broadcastInDim S1x19x361x1x1 ![0, 1, 2, 3] bcast_S1x19x361x1_S1x19x361x1x1_0_1_2_3 (into d)))
      (broadcastInDim S512x19x361x8x64 ![0, 1, 2, 3, 4] bcast_S512x1x361x8x64_S512x19x361x8x64_0_1_2_3_4
        (broadcastInDim S512x1x361x8x64 ![0, 2, 3, 4] bcast_S512x361x8x64_S512x1x361x8x64_0_2_3_4
          (mulf (F := Ideal) xj (broadcastInDim S512x361x8x64 ![0, 1, 2, 3] bcast_S512x361x8x1_S512x361x8x64_0_1_2_3
            (broadcastInDim S512x361x8x1 ![0, 1, 2] bcast_S512x361x8_S512x361x8x1_0_1_2 al)))))
      (broadcastInDim S512x19x361x8x64 ![] bcast_S_S512x19x361x8x64 (constant (F := Ideal) S_ .f32 0x00000000#32)))
    (constant (F := Ideal) S_ .f32 0x00000000#32) reducesTo_S512x19x361x8x64_S512x19x8x64_d2 h_S_

/-- The exponentials of the shifted scores. -/
def expOf (d : IVec S361 32) (sc : FVec Ideal S512x361x8 .f32) : FVec Ideal S512x361x8 .f32 :=
  Host.exp (F := Ideal) (subf (F := Ideal) sc (take3 (nodeMax d sc) d))

/-- The attention of a layer, from the source and the target rows. -/
def attend (xl xr : FVec Ideal S512x19x8x64 .f32) (a : FVec Ideal S8x64 .f32) (s d : IVec S361 32) : FVec Ideal S512x19x8x64 .f32 :=
  gatherUp d (take4 xl s) (weightOf d (expOf d (edgeScore (take4 xl s) (take4 xr d) a)))

/-! ## The operations at an index -/

/-- The gather of rank four at an index: the row of the clamped node number. -/
theorem gather4_apply (a : FVec Ideal S512x19x8x64 .f32) (w : IVec S361x1 32) (b : Fin 512) (i : Fin 361) (h : Fin 8) (o : Fin 64) :
    Host.gather gather_S512x19x8x64_S361x1_S512x361x8x64_023_1_n_n_1_1_5121864 a w (ix4 b i h o)
      = a (ix4 b ⟨min (w (ix2 i 0)).toInt.toNat 18, by omega⟩ h o) := by
  unfold Host.gather
  congr 1
  funext x
  refine Fin.ext ?_
  show GatherDims.start _ _ w x + GatherDims.batchCoord _ _ x + GatherDims.offCoord _ _ x = _
  rw [GatherDims.batchCoord_eq_zero _ _ _ List.not_mem_nil]
  match x with
  | ⟨0, _⟩ =>
    unfold GatherDims.start GatherDims.offCoord
    rw [dif_neg (by decide +revert), dif_pos (by decide +revert)]
    exact Nat.zero_add _
  | ⟨1, _⟩ =>
    unfold GatherDims.start GatherDims.offCoord
    rw [dif_pos (by decide +revert), dif_neg (by decide +revert)]
    have hsi : ∀ c, GatherDims.siIdx gather_S512x19x8x64_S361x1_S512x361x8x64_023_1_n_n_1_1_5121864 (ix4 b i h o) c = ix2 i 0 := fun c => by
      funext y
      refine Fin.ext ?_
      match y with
      | ⟨0, _⟩ => rfl
      | ⟨1, _⟩ => exact Nat.lt_one_iff.mp c.isLt
    rw [hsi]
    rfl
  | ⟨2, _⟩ =>
    unfold GatherDims.start GatherDims.offCoord
    rw [dif_neg (by decide +revert), dif_pos (by decide +revert)]
    exact Nat.zero_add _
  | ⟨3, _⟩ =>
    unfold GatherDims.start GatherDims.offCoord
    rw [dif_neg (by decide +revert), dif_pos (by decide +revert)]
    exact Nat.zero_add _

/-- The gather of rank three at an index: the row of the clamped node number. -/
theorem gather3_apply (a : FVec Ideal S512x19x8 .f32) (w : IVec S361x1 32) (b : Fin 512) (i : Fin 361) (h : Fin 8) :
    Host.gather gather_S512x19x8_S361x1_S512x361x8_02_1_n_n_1_1_51218 a w (ix3 b i h)
      = a (ix3 b ⟨min (w (ix2 i 0)).toInt.toNat 18, by omega⟩ h) := by
  unfold Host.gather
  congr 1
  funext x
  refine Fin.ext ?_
  show GatherDims.start _ _ w x + GatherDims.batchCoord _ _ x + GatherDims.offCoord _ _ x = _
  rw [GatherDims.batchCoord_eq_zero _ _ _ List.not_mem_nil]
  match x with
  | ⟨0, _⟩ =>
    unfold GatherDims.start GatherDims.offCoord
    rw [dif_neg (by decide +revert), dif_pos (by decide +revert)]
    exact Nat.zero_add _
  | ⟨1, _⟩ =>
    unfold GatherDims.start GatherDims.offCoord
    rw [dif_pos (by decide +revert), dif_neg (by decide +revert)]
    have hsi : ∀ c, GatherDims.siIdx gather_S512x19x8_S361x1_S512x361x8_02_1_n_n_1_1_51218 (ix3 b i h) c = ix2 i 0 := fun c => by
      funext y
      refine Fin.ext ?_
      match y with
      | ⟨0, _⟩ => rfl
      | ⟨1, _⟩ => exact Nat.lt_one_iff.mp c.isLt
    rw [hsi]
    rfl
  | ⟨2, _⟩ =>
    unfold GatherDims.start GatherDims.offCoord
    rw [dif_neg (by decide +revert), dif_pos (by decide +revert)]
    exact Nat.zero_add _

/-- The maximum into a node at an index. -/
theorem rawMax_apply (v : FVec Ideal S512x19x361x8 .f32) (b : Fin 512) (n : Fin 19) (h : Fin 8) :
    rawMax v (ix3 b n h) = (Finset.univ : Finset (Fin 361)).fold max ⊥ (fun i => v (ix4 b n i h)) := by
  pointwise [rawMax]
  rw [ofBits_neg_inf]

/-- A real stays. -/
theorem finiteOr_apply (v : FVec Ideal S512x19x8 .f32) (b : Fin 512) (n : Fin 19) (h : Fin 8) (r : ℝ)
    (hv : v (ix3 b n h) = (r : EReal)) : finiteOr v (ix3 b n h) = (r : EReal) := by
  have e : Ideal.ofBits .f32 0x7F800000#32 = (⊤ : EReal) := by simp [Ideal.ofBits, Ideal.ieee]
  pointwise [finiteOr]
  rw [hv, absf_coe, if_pos]
  exact lt_of_lt_of_eq (EReal.coe_lt_top _) e.symm

variable (s : IVec S361 32) (p : Fin 361 → Fin 19) (hs : ∀ i, s (ix1 i) = BitVec.ofNat 32 (p i).val)

include hs in
/-- A node number in range is not wrapped. -/
theorem wrap_apply (i : Fin 361) : wrap s (ix2 i 0) = BitVec.ofNat 32 (p i).val := by
  have e : ∀ n : Fin 19, Scalar.select (IntOp.cmpi CmpIPredicate.slt (BitVec.ofNat 32 n.val) 0#32)
    (IntOp.addi (BitVec.ofNat 32 n.val) 19#32) (BitVec.ofNat 32 n.val) = BitVec.ofNat 32 n.val := by decide
  pointwise [wrap]
  rw [hs]
  exact e _

include hs in
/-- It is in range. -/
theorem inRange_apply (i : Fin 361) : inRange (wrap s) (ix1 i) = 1#1 := by
  have q : ∀ n : Fin 19, IntOp.andi (IntOp.andi (IntOp.cmpi CmpIPredicate.sge (BitVec.ofNat 32 n.val) 0#32)
    (IntOp.cmpi CmpIPredicate.sle (BitVec.ofNat 32 n.val) 18#32)) 1#1 = 1#1 := by decide
  have e := wrap_apply s p hs i
  generalize wrap s = w at *
  pointwise [inRange]
  rw [Finset.univ_unique, Finset.fold_singleton]
  rw [show (default : Fin 1) = 0 from rfl, e]
  exact q _

/-- A node number as a word, read back. -/
theorem node_word : ∀ n : Fin 19, min (BitVec.ofNat 32 n.val).toInt.toNat 18 = n.val := by decide

include hs in
/-- The row taken for an edge is its node's. -/
theorem take4_apply (a : FVec Ideal S512x19x8x64 .f32) (b : Fin 512) (i : Fin 361) (h : Fin 8) (o : Fin 64) :
    take4 a s (ix4 b i h o) = a (ix4 b (p i) h o) := by
  have e := inRange_apply s p hs i
  have w := wrap_apply s p hs i
  unfold take4
  generalize inRange (wrap s) = r at *
  generalize wrap s = v at *
  pointwise []
  rw [e, gather4_apply]
  refine (if_pos rfl).trans (congrArg (fun n => a (ix4 b n h o)) (Fin.ext ?_))
  show min (v (ix2 i 0)).toInt.toNat 18 = _
  rw [w, node_word]

include hs in
/-- The same with one number per head. -/
theorem take3_apply (a : FVec Ideal S512x19x8 .f32) (b : Fin 512) (i : Fin 361) (h : Fin 8) :
    take3 a s (ix3 b i h) = a (ix3 b (p i) h) := by
  have e := inRange_apply s p hs i
  have w := wrap_apply s p hs i
  unfold take3
  generalize inRange (wrap s) = r at *
  generalize wrap s = v at *
  pointwise []
  rw [e, gather3_apply]
  refine (if_pos rfl).trans (congrArg (fun n => a (ix3 b n h)) (Fin.ext ?_))
  show min (v (ix2 i 0)).toInt.toNat 18 = _
  rw [w, node_word]

/-- The comparison of a node's number with an edge's target. -/
theorem node_eq {α : Type} : ∀ (n m : Fin 19) (a b : α), Scalar.select (IntOp.cmpi CmpIPredicate.eq (BitVec.ofNat 32 n.val) (BitVec.ofNat 32 m.val)) a b
    = if n = m then a else b := by
  have e : ∀ n m : Fin 19, IntOp.cmpi CmpIPredicate.eq (BitVec.ofNat 32 n.val) (BitVec.ofNat 32 m.val) = if n = m then 1#1 else 0#1 := by
    decide +kernel
  intro n m a b
  rw [e]
  split <;> rfl

include hs in
/-- What is kept for a node. -/
theorem keep3_apply (v : FVec Ideal S512x361x8 .f32) (fill : FVec Ideal S_ .f32) (b : Fin 512) (n : Fin 19) (i : Fin 361) (h : Fin 8) :
    keep3 s v fill (ix4 b n i h) = if n = p i then v (ix3 b i h) else fill ix0 := by
  pointwise [keep3, into]
  rw [hs, node_eq]

/-- The leaky rectifier at a real. -/
theorem leak_apply (v : FVec Ideal S512x361x8x64 .f32) (b : Fin 512) (i : Fin 361) (h : Fin 8) (o : Fin 64) (r : ℝ)
    (hv : v (ix4 b i h o) = (r : EReal)) : leak v (ix4 b i h o) = ((leaky r : ℝ) : EReal) := by
  have e : Ideal.ofBits .f32 0x40A00000#32 = ((5 : ℝ) : EReal) := by
    simp [Ideal.ofBits, Ideal.ieee, -EReal.coe_mul]
    norm_num
  have e' : Ideal.div 1 (Ideal.ofBits .f32 0x40A00000#32) = ((1 / 5 : ℝ) : EReal) := by
    rw [e]
    exact div_coe_coe 1 5 (by norm_num)
  pointwise [leak]
  rw [hv]
  unfold leaky
  rw [apply_ite (fun r : ℝ => (r : EReal)), EReal.coe_mul]
  refine if_congr EReal.coe_nonneg rfl ?_
  exact congrArg (· * _) e'

include hs in
/-- The sum into a node at an index. -/
theorem nodeSum_apply (v : FVec Ideal S512x361x8 .f32) (b : Fin 512) (n : Fin 19) (h : Fin 8) :
    nodeSum s v (ix3 b n h) = ∑ i, if n = p i then v (ix3 b i h) else 0 := by
  pointwise [nodeSum]
  refine Finset.sum_congr rfl fun i _ => ?_
  rw [keep3_apply s p hs]
  pointwise []

include hs in
/-- The messages summed at an index. -/
theorem gatherUp_apply (xj : FVec Ideal S512x361x8x64 .f32) (v : FVec Ideal S512x361x8 .f32) (b : Fin 512) (n : Fin 19) (h : Fin 8) (o : Fin 64) :
    gatherUp s xj v (ix4 b n h o) = ∑ i, if n = p i then xj (ix4 b i h o) * v (ix3 b i h) else 0 := by
  pointwise [gatherUp, into]
  refine Finset.sum_congr rfl fun i _ => ?_
  rw [hs, node_eq]

/-- An edge's score at an index. -/
theorem edgeScore_apply (xj xi : FVec Ideal S512x361x8x64 .f32) (a : FVec Ideal S8x64 .f32) (b : Fin 512) (i : Fin 361) (h : Fin 8) :
    edgeScore xj xi a (ix3 b i h) = ∑ o, leak (addf (F := Ideal) xi xj) (ix4 b i h o) * a (ix2 h o) := by
  pointwise [edgeScore]

include hs in
/-- A weight at an index. -/
theorem weightOf_apply (v : FVec Ideal S512x361x8 .f32) (b : Fin 512) (i : Fin 361) (h : Fin 8) :
    weightOf s v (ix3 b i h) = Ideal.div (v (ix3 b i h)) (max (nodeSum s v (ix3 b (p i) h)) (Ideal.ofBits .f32 0x24E69595#32)) := by
  have e := take3_apply s p hs (nodeSum s v) b i h
  pointwise [weightOf]
  rw [e]

include hs in
/-- An exponential at an index. -/
theorem expOf_apply (v : FVec Ideal S512x361x8 .f32) (b : Fin 512) (i : Fin 361) (h : Fin 8) :
    expOf s v (ix3 b i h) = Ideal.exp (v (ix3 b i h) - nodeMax s v (ix3 b (p i) h)) := by
  have e := take3_apply s p hs (nodeMax s v) b i h
  pointwise [expOf]
  rw [e]

end Cert.Net.Ref

end
-- ==== Proof.RefLayer.lean ====
module

public import proofs.«01_k».proof.Proof.Layer

@[expose] public section

set_option maxRecDepth 16384

noncomputable section

/-! The reference's graph attention layer over the complete graph is `attn`, its operands real. -/

namespace Cert.Net.Ref

open Idealize.ShloMosaic Cert.ReferenceIdeal Cert.ReferenceIdeal.Gen

/-- The guard of the denominators: a positive real below one. -/
theorem guard_real : ∃ r : ℝ, 0 < r ∧ r ≤ 1 ∧ Ideal.ofBits .f32 0x24E69595#32 = (r : EReal) := by
  refine ⟨15111573 * 2 ^ (-77 : ℤ), by norm_num, by norm_num, ?_⟩
  simp [Ideal.ofBits, Ideal.ieee, -EReal.coe_mul]
  try norm_num

variable (e : Fin 361 ≃ Fin 19 × Fin 19) (s d : IVec S361 32)
  (hs : ∀ i, s (ix1 i) = BitVec.ofNat 32 (e i).1.val) (hd' : ∀ i, d (ix1 i) = BitVec.ofNat 32 (e i).2.val)

/-- The sum of real numbers, one per edge, over the edges into a node. -/
theorem into_real (f : Fin 19 → Fin 19 → ℝ) (n : Fin 19) :
    ∑ i, (if n = (e i).2 then ((f (e i).1 (e i).2 : ℝ) : EReal) else 0) = ((∑ j, f j n : ℝ) : EReal) :=
  (sum_into e (fun j m => ((f j m : ℝ) : EReal)) n).trans (coe_sum _ _)

section Scores
variable (sc : FVec Ideal S512x361x8 .f32) (S : Fin 512 → Fin 8 → Fin 19 → Fin 19 → ℝ)
  (hsc : ∀ b i h, sc (ix3 b i h) = ((S b h (e i).1 (e i).2 : ℝ) : EReal))

include hd' hsc in
/-- A node's maximum is the score of one of its sources. -/
theorem nodeMax_real (b : Fin 512) (n : Fin 19) (h : Fin 8) :
    ∃ j, nodeMax d sc (ix3 b n h) = ((S b h j n : ℝ) : EReal) := by
  obtain ⟨i, -, hi⟩ := fold_max_real
    (fun i => keep3 d sc (constant (F := Ideal) S_ .f32 0xFF800000#32) (ix4 b n i h)) (fun i => S b h (e i).1 n)
    (fun i => n = (e i).2)
    (fun i hi => by
      rw [keep3_apply d (fun i => (e i).2) hd', if_pos hi, hsc, ← hi])
    (fun i hi => by
      rw [keep3_apply d (fun i => (e i).2) hd', if_neg hi]
      exact ofBits_neg_inf)
    ⟨e.symm (0, n), by simp⟩
  refine ⟨(e i).1, ?_⟩
  unfold nodeMax
  refine finiteOr_apply _ _ _ _ _ ?_
  rw [rawMax_apply]
  exact hi

variable (M : Fin 512 → Fin 8 → Fin 19 → ℝ) (hM : ∀ b n h, nodeMax d sc (ix3 b n h) = ((M b h n : ℝ) : EReal))

include hd' hsc hM in
/-- The exponential of a score shifted by its node's maximum. -/
theorem expOf_real (b : Fin 512) (i : Fin 361) (h : Fin 8) :
    expOf d sc (ix3 b i h) = ((Real.exp (S b h (e i).1 (e i).2 - M b h (e i).2) : ℝ) : EReal) := by
  rw [expOf_apply d (fun i => (e i).2) hd', hsc, hM, ← EReal.coe_sub, Ideal.exp_coe]

include hd' hsc hM in
/-- A weight: the exponential over the guarded sum of those of its node. -/
theorem weightOf_real (r : ℝ) (h0 : 0 < r) (hr : Ideal.ofBits .f32 0x24E69595#32 = (r : EReal)) (b : Fin 512) (i : Fin 361) (h : Fin 8) :
    weightOf d (expOf d sc) (ix3 b i h) = ((Real.exp (S b h (e i).1 (e i).2 - M b h (e i).2)
      / max (∑ j, Real.exp (S b h j (e i).2 - M b h (e i).2)) r : ℝ) : EReal) := by
  have hx := expOf_real e d hd' sc S hsc M hM
  generalize expOf d sc = x at *
  have hsum : nodeSum d x (ix3 b (e i).2 h) = ((∑ j, Real.exp (S b h j (e i).2 - M b h (e i).2) : ℝ) : EReal) := by
    rw [nodeSum_apply d (fun i => (e i).2) hd']
    simp only [hx]
    exact into_real e (fun j m => Real.exp (S b h j m - M b h m)) _
  rw [weightOf_apply d (fun i => (e i).2) hd', hx, hsum, hr, ← EReal.coe_strictMono.monotone.map_max]
  exact div_coe_coe _ _ (lt_of_lt_of_le h0 (le_max_right _ _)).ne'

end Scores

variable (xl xr : FVec Ideal S512x19x8x64 .f32) (a : FVec Ideal S8x64 .f32)
  (L R : Fin 512 → Fin 19 → Fin 512 → ℝ) (att : Fin 8 → Fin 64 → ℝ)
  (hl : ∀ b n h o, xl (ix4 b n h o) = ((L b n (col h o) : ℝ) : EReal))
  (hr : ∀ b n h o, xr (ix4 b n h o) = ((R b n (col h o) : ℝ) : EReal))
  (ha : ∀ h o, a (ix2 h o) = ((att h o : ℝ) : EReal))

include hs hd' hl hr ha in
/-- An edge's score is that of its two rows. -/
theorem edgeScore_real (b : Fin 512) (i : Fin 361) (h : Fin 8) :
    edgeScore (take4 xl s) (take4 xr d) a (ix3 b i h) = ((score att (L b (e i).1) (R b (e i).2) h : ℝ) : EReal) := by
  have h1 := take4_apply s (fun i => (e i).1) hs xl
  have h2 := take4_apply d (fun i => (e i).2) hd' xr
  generalize take4 xl s = y at *
  generalize take4 xr d = z at *
  rw [edgeScore_apply]
  refine (Finset.sum_congr rfl fun o _ => ?_).trans (coe_sum _ _)
  rw [leak_apply _ b i h o (R b (e i).2 (col h o) + L b (e i).1 (col h o)) (by
    show z (ix4 b i h o) + y (ix4 b i h o) = _
    rw [h1, h2, hl, hr, EReal.coe_add]), ha, ← EReal.coe_mul]

include hs hd' hl hr ha in
/-- The layer's attention at an index. -/
theorem attend_real (b : Fin 512) (n : Fin 19) (h : Fin 8) (o : Fin 64) :
    attend xl xr a s d (ix4 b n h o) = ((attn att (L b) (R b n) (col h o) : ℝ) : EReal) := by
  unfold attend
  have hsc := edgeScore_real e s d hs hd' xl xr a L R att hl hr ha
  have h1 := take4_apply s (fun i => (e i).1) hs xl
  generalize edgeScore (take4 xl s) (take4 xr d) a = sc at *
  generalize take4 xl s = y at *
  have hm := nodeMax_real e d hd' sc (fun b h j m => score att (L b j) (R b m) h) hsc
  choose J hJ using hm
  obtain ⟨r, h0, hle, hr'⟩ := guard_real
  have hw := weightOf_real e d hd' sc (fun b h j m => score att (L b j) (R b m) h) hsc
    (fun b h n => score att (L b (J b n h)) (R b n) h) hJ r h0 hr'
  generalize weightOf d (expOf d sc) = w at *
  rw [gatherUp_apply d (fun i => (e i).2) hd']
  simp only [h1, hl, hw, ← EReal.coe_mul]
  refine (into_real e (fun j m => L b j (col h o) * (Real.exp (score att (L b j) (R b m) h - score att (L b (J b m h)) (R b m) h)
      / max (∑ i, Real.exp (score att (L b i) (R b m) h - score att (L b (J b m h)) (R b m) h)) r)) n).trans ?_
  have k := attn_of_guarded att (L b) (R b n) (col h o) (score att (L b (J b n h)) (R b n) h) r
    ⟨J b n h, by rw [hd_col]⟩ hle
  rw [hd_col] at k
  rw [k]

end Cert.Net.Ref

end
-- ==== Proof.RefNet.lean ====
module

public import proofs.«01_k».proof.Proof.RefLayer

@[expose] public section

set_option maxRecDepth 16384

noncomputable section

/-! The reference's value, its arguments real and its graph complete. -/

namespace Cert.Net.Ref

open Idealize.ShloMosaic Cert.ReferenceIdeal Cert.ReferenceIdeal.Gen

/-- The exponential linear unit, as the reference spells it. -/
def eluR (v : FVec Ideal S512x19x512 .f32) : FVec Ideal S512x19x512 .f32 :=
  select (cmpf (F := Ideal) .ogt v (broadcastInDim S512x19x512 ![] bcast_S_S512x19x512 (constant (F := Ideal) S_ .f32 0x00000000#32))) v
    (mulf (F := Ideal) (broadcastInDim S512x19x512 ![] bcast_S_S512x19x512 (constant (F := Ideal) S_ .f32 0x3F800000#32))
      (Host.expm1 (F := Ideal) (select (cmpf (F := Ideal) .ogt v (broadcastInDim S512x19x512 ![] bcast_S_S512x19x512 (constant (F := Ideal) S_ .f32 0x00000000#32)))
        (broadcastInDim S512x19x512 ![] bcast_S_S512x19x512 (constant (F := Ideal) S_ .f32 0x00000000#32)) v)))

/-- A layer's attention with its axes joined, plus a bias. -/
def joined (y : FVec Ideal S512x19x8x64 .f32) (c : FVec Ideal S512 .f32) : FVec Ideal S512x19x512 .f32 :=
  addf (F := Ideal) (shapeCast S512x19x512 y shapeCasts_S512x19x8x64_S512x19x512)
    (broadcastInDim S512x19x512 ![0, 1, 2] bcast_S1x1x512_S512x19x512_0_1_2 (broadcastInDim S1x1x512 ![2] bcast_S512_S1x1x512_2 c))

/-- The second layer's linear maps, in heads. -/
def proj (y : FVec Ideal S512x19x512 .f32) (w : FVec Ideal S512x512 .f32) (c : FVec Ideal S512 .f32) : FVec Ideal S512x19x8x64 .f32 :=
  shapeCast S512x19x8x64 (addf (F := Ideal) (Host.dotGeneral (F := Ideal) dot_S512x19x512_S512x512_S512x19x512_2_0_01_1_n_n none y w)
    (broadcastInDim S512x19x512 ![0, 1, 2] bcast_S1x1x512_S512x19x512_0_1_2 (broadcastInDim S1x1x512 ![2] bcast_S512_S1x1x512_2 c)))
    shapeCasts_S512x19x512_S512x19x8x64

/-- The first layer's linear maps, in heads. -/
def proj0 (x : FVec Ideal S512x128x19 .f32) (w : FVec Ideal S128x512 .f32) (c : FVec Ideal S512 .f32) : FVec Ideal S512x19x8x64 .f32 :=
  shapeCast S512x19x8x64 (addf (F := Ideal) (Host.dotGeneral (F := Ideal) dot_S512x19x128_S128x512_S512x19x512_2_0_01_1_n_n none (transpose S512x19x128 [0, 2, 1] x transposes_S512x128x19_S512x19x128_0_2_1) w)
    (broadcastInDim S512x19x512 ![0, 1, 2] bcast_S1x1x512_S512x19x512_0_1_2 (broadcastInDim S1x1x512 ![2] bcast_S512_S1x1x512_2 c)))
    shapeCasts_S512x19x512_S512x19x8x64

/-- The pooling scores. -/
def poolScore (y : FVec Ideal S512x19x512 .f32) (w : FVec Ideal S512x1 .f32) (c : FVec Ideal S1 .f32) : FVec Ideal S512x19x1 .f32 :=
  addf (F := Ideal) (Host.dotGeneral (F := Ideal) dot_S512x19x512_S512x1_S512x19x1_2_0_01_1_n_n none y w)
    (broadcastInDim S512x19x1 ![0, 1, 2] bcast_S1x1x1_S512x19x1_0_1_2 (broadcastInDim S1x1x1 ![2] bcast_S1_S1x1x1_2 c))

/-- The maximum of the pooling scores of a graph. -/
def poolMax (q : FVec Ideal S512x19x1 .f32) : FVec Ideal S512x1 .f32 :=
  maximumf (F := Ideal) (broadcastInDim S512x1 ![] bcast_S_S512x1 (constant (F := Ideal) S_ .f32 0xFF800000#32))
    (Host.reduce (FloatOps.maximumf (F := Ideal)) q (constant (F := Ideal) S_ .f32 0xFF800000#32) reducesTo_S512x19x1_S512x1_d1 h_S_)

/-- The exponentials of the shifted pooling scores. -/
def poolExp (q : FVec Ideal S512x19x1 .f32) : FVec Ideal S512x19x1 .f32 :=
  Host.exp (F := Ideal) (subf (F := Ideal) q (broadcastInDim S512x19x1 ![0, 1, 2] bcast_S512x1x1_S512x19x1_0_1_2
    (broadcastInDim S512x1x1 ![0, 2] bcast_S512x1_S512x1x1_0_2 (poolMax q))))

/-- The rows weighted by the shares of their exponentials and summed. -/
def pooled (x : FVec Ideal S512x19x1 .f32) (y : FVec Ideal S512x19x512 .f32) : FVec Ideal S512x512 .f32 :=
  Host.reduceAdd (F := Ideal) (mulf (F := Ideal) (broadcastInDim S512x19x512 ![0, 1, 2] bcast_S512x19x1_S512x19x512_0_1_2
      (Host.divf (F := Ideal) x (broadcastInDim S512x19x1 ![0, 1, 2] bcast_S512x1x1_S512x19x1_0_1_2
        (broadcastInDim S512x1x1 ![0, 2] bcast_S512x1_S512x1x1_0_2
          (Host.reduceAdd (F := Ideal) x (constant (F := Ideal) S_ .f32 0x00000000#32) reducesTo_S512x19x1_S512x1_d1 h_S_))))) y)
    (constant (F := Ideal) S_ .f32 0x00000000#32) reducesTo_S512x19x512_S512x512_d1 h_S_

/-- The last linear map. -/
def readout (y : FVec Ideal S512x512 .f32) (w : FVec Ideal S512x1 .f32) (c : FVec Ideal S1 .f32) : FVec Ideal S512 .f32 :=
  shapeCast S512 (addf (F := Ideal) (Host.dotGeneral (F := Ideal) dot_S512x512_S512x1_S512x1_1_0_0_1_n_n none y w)
    (broadcastInDim S512x1 ![0, 1] bcast_S1x1_S512x1_0_1 (broadcastInDim S1x1 ![1] bcast_S1_S1x1_1 c))) shapeCasts_S512x1_S512

section
variable (x0 : FVec Ideal S512x128x19 .f32) (x1 : FVec Ideal S128x512 .f32) (x2 : FVec Ideal S512 .f32)
  (x3 : FVec Ideal S128x512 .f32) (x4 : FVec Ideal S512 .f32) (x5 : FVec Ideal S8x64 .f32) (x6 : FVec Ideal S512 .f32)
  (x7 : FVec Ideal S512x512 .f32) (x8 : FVec Ideal S512 .f32) (x9 : FVec Ideal S512x512 .f32) (x10 : FVec Ideal S512 .f32)
  (x11 : FVec Ideal S8x64 .f32) (x12 : FVec Ideal S512 .f32) (x13 : FVec Ideal S512x1 .f32) (x14 : FVec Ideal S1 .f32)
  (x15 : FVec Ideal S512x1 .f32) (x16 : FVec Ideal S1 .f32) (x17 : IVec S2x361 32)

/-- The first layer's attention is `attend`. -/
theorem v54_eq : Read.val_main_v54 (F := Ideal) x0 x1 x2 x3 x4 x5 x17
    = attend (Read.val_main_v9 (F := Ideal) x0 x1 x2) (Read.val_main_v14 (F := Ideal) x0 x3 x4) x5
        (Read.val_main_v1 (F := Ideal) x17) (Read.val_main_v3 (F := Ideal) x17) := rfl

/-- The second layer's attention is `attend`. -/
theorem v109_eq : Read.val_main_v109 (F := Ideal) x0 x1 x2 x3 x4 x5 x6 x7 x8 x9 x10 x11 x17
    = attend (Read.val_main_v64 (F := Ideal) x0 x1 x2 x3 x4 x5 x6 x7 x8 x17) (Read.val_main_v69 (F := Ideal) x0 x1 x2 x3 x4 x5 x6 x9 x10 x17) x11
        (Read.val_main_v1 (F := Ideal) x17) (Read.val_main_v3 (F := Ideal) x17) := rfl

/-- The first layer's linear maps. -/
theorem v9_eq : Read.val_main_v9 (F := Ideal) x0 x1 x2 = proj0 x0 x1 x2 := rfl

theorem v14_eq : Read.val_main_v14 (F := Ideal) x0 x3 x4 = proj0 x0 x3 x4 := rfl

/-- The first layer's rows. -/
theorem v59_eq : Read.val_main_v59 (F := Ideal) x0 x1 x2 x3 x4 x5 x6 x17 = eluR (joined (Read.val_main_v54 (F := Ideal) x0 x1 x2 x3 x4 x5 x17) x6) := rfl

/-- The second layer's linear maps. -/
theorem v64_eq : Read.val_main_v64 (F := Ideal) x0 x1 x2 x3 x4 x5 x6 x7 x8 x17 = proj (Read.val_main_v59 (F := Ideal) x0 x1 x2 x3 x4 x5 x6 x17) x7 x8 := rfl

theorem v69_eq : Read.val_main_v69 (F := Ideal) x0 x1 x2 x3 x4 x5 x6 x9 x10 x17 = proj (Read.val_main_v59 (F := Ideal) x0 x1 x2 x3 x4 x5 x6 x17) x9 x10 := rfl

/-- The second layer's rows. -/
theorem v113_eq : Read.val_main_v113 (F := Ideal) x0 x1 x2 x3 x4 x5 x6 x7 x8 x9 x10 x11 x12 x17
    = joined (Read.val_main_v109 (F := Ideal) x0 x1 x2 x3 x4 x5 x6 x7 x8 x9 x10 x11 x17) x12 := rfl

/-- The result is the readout of the pooled rows. -/
theorem v136_eq : Read.val_main_v136 (F := Ideal) x0 x1 x2 x3 x4 x5 x6 x7 x8 x9 x10 x11 x12 x13 x14 x15 x16 x17
    = readout (pooled (poolExp (poolScore (Read.val_main_v113 (F := Ideal) x0 x1 x2 x3 x4 x5 x6 x7 x8 x9 x10 x11 x12 x17) x13 x14)) (Read.val_main_v113 (F := Ideal) x0 x1 x2 x3 x4 x5 x6 x7 x8 x9 x10 x11 x12 x17)) x15 x16 := rfl

end

/-! ## At real arguments -/

/-- The unit at a real. -/
theorem eluR_real (v : FVec Ideal S512x19x512 .f32) (b : Fin 512) (n : Fin 19) (k : Fin 512) (r : ℝ)
    (hv : v (ix3 b n k) = (r : EReal)) : eluR v (ix3 b n k) = ((elu r : ℝ) : EReal) := by
  pointwise [eluR]
  rw [hv, ← elu_coe]
  by_cases h : (0 : EReal) < (r : EReal)
  · rw [if_pos h, if_pos h]
  · rw [if_neg h, if_neg h, if_neg h]

/-- The joined rows at an index, the bias zero. -/
theorem joined_real (y : FVec Ideal S512x19x8x64 .f32) (c : FVec Ideal S512 .f32) (hc : ∀ k, c (ix1 k) = 0)
    (b : Fin 512) (n : Fin 19) (k : Fin 512) : joined y c (ix3 b n k) = y (ix4 b n (hd k) (ln k)) := by
  pointwise [joined]
  rw [hc, add_zero]
  rfl

/-- A linear map of the second layer at an index, the bias zero. -/
theorem proj_real (y : FVec Ideal S512x19x512 .f32) (w : FVec Ideal S512x512 .f32) (c : FVec Ideal S512 .f32)
    (Y : Fin 512 → Fin 19 → Fin 512 → ℝ) (W : Fin 512 → Fin 512 → ℝ)
    (hy : ∀ b n k, y (ix3 b n k) = ((Y b n k : ℝ) : EReal)) (hw : ∀ i k, w (ix2 i k) = ((W i k : ℝ) : EReal))
    (hc : ∀ k, c (ix1 k) = 0) (b : Fin 512) (n : Fin 19) (h : Fin 8) (o : Fin 64) :
    proj y w c (ix4 b n h o) = ((mm W (Y b n) (col h o) : ℝ) : EReal) := by
  pointwise [proj]
  rw [hc, add_zero]
  simp only [hy, hw, ← EReal.coe_mul]
  exact coe_sum _ _

/-- A linear map of the first layer at an index, the bias zero. -/
theorem proj0_real (x : FVec Ideal S512x128x19 .f32) (w : FVec Ideal S128x512 .f32) (c : FVec Ideal S512 .f32)
    (X : Fin 512 → Fin 19 → Fin 128 → ℝ) (W : Fin 128 → Fin 512 → ℝ)
    (hx : ∀ b f n, x (ix3 b f n) = ((X b n f : ℝ) : EReal)) (hw : ∀ i k, w (ix2 i k) = ((W i k : ℝ) : EReal))
    (hc : ∀ k, c (ix1 k) = 0) (b : Fin 512) (n : Fin 19) (h : Fin 8) (o : Fin 64) :
    proj0 x w c (ix4 b n h o) = ((mm W (X b n) (col h o) : ℝ) : EReal) := by
  pointwise [proj0]
  rw [hc, add_zero]
  simp only [hx, hw, ← EReal.coe_mul]
  exact coe_sum _ _

/-- The pooling scores at real rows. -/
theorem poolScore_real (y : FVec Ideal S512x19x512 .f32) (w : FVec Ideal S512x1 .f32) (c : FVec Ideal S1 .f32)
    (Y : Fin 512 → Fin 19 → Fin 512 → ℝ) (W : Fin 512 → ℝ) (C : ℝ)
    (hy : ∀ b n k, y (ix3 b n k) = ((Y b n k : ℝ) : EReal)) (hw : ∀ k, w (ix2 k 0) = ((W k : ℝ) : EReal))
    (hc : c (ix1 0) = (C : EReal)) (b : Fin 512) (n : Fin 19) :
    poolScore y w c (ix3 b n 0) = ((∑ k, Y b n k * W k + C : ℝ) : EReal) := by
  pointwise [poolScore]
  rw [hc]
  simp only [hy, hw, ← EReal.coe_mul]
  rw [EReal.coe_add]
  exact congrArg (· + _) (coe_sum _ _)

/-- The maximum of real pooling scores is one of them. -/
theorem poolMax_real (q : FVec Ideal S512x19x1 .f32) (Q : Fin 512 → Fin 19 → ℝ)
    (hq : ∀ b n, q (ix3 b n 0) = ((Q b n : ℝ) : EReal)) (b : Fin 512) :
    ∃ n, poolMax q (ix2 b 0) = ((Q b n : ℝ) : EReal) := by
  obtain ⟨n, -, hn⟩ := fold_max_real (fun n : Fin 19 => q (ix3 b n 0)) (Q b) (fun _ => True)
    (fun n _ => hq b n) (fun n h => absurd trivial h) ⟨0, trivial⟩
  refine ⟨n, ?_⟩
  pointwise [poolMax]
  rw [ofBits_neg_inf, hn]
  exact max_eq_right bot_le

/-- The exponential of a shifted pooling score. -/
theorem poolExp_real (q : FVec Ideal S512x19x1 .f32) (Q : Fin 512 → Fin 19 → ℝ) (M : Fin 512 → ℝ)
    (hq : ∀ b n, q (ix3 b n 0) = ((Q b n : ℝ) : EReal)) (hM : ∀ b, poolMax q (ix2 b 0) = ((M b : ℝ) : EReal))
    (b : Fin 512) (n : Fin 19) : poolExp q (ix3 b n 0) = ((Real.exp (Q b n - M b) : ℝ) : EReal) := by
  pointwise [poolExp]
  rw [hq, hM, ← EReal.coe_sub, Ideal.exp_coe]

/-- The pooled rows at real weights. -/
theorem pooled_real (x : FVec Ideal S512x19x1 .f32) (y : FVec Ideal S512x19x512 .f32)
    (S : Fin 512 → Fin 19 → ℝ) (Y : Fin 512 → Fin 19 → Fin 512 → ℝ)
    (hx : ∀ b n, x (ix3 b n 0) = ((Real.exp (S b n) : ℝ) : EReal)) (hy : ∀ b n k, y (ix3 b n k) = ((Y b n k : ℝ) : EReal))
    (b k : Fin 512) :
    pooled x y (ix2 b k) = ((∑ n, Real.exp (S b n) / (∑ i, Real.exp (S b i)) * Y b n k : ℝ) : EReal) := by
  have h0 : (∑ i, Real.exp (S b i)) ≠ 0 :=
    (Finset.sum_pos (fun i _ => Real.exp_pos (S b i)) ⟨0, Finset.mem_univ _⟩).ne'
  pointwise [pooled]
  simp only [hx, hy, coe_sum, div_coe_coe _ _ h0, ← EReal.coe_mul]

/-- The readout at an index. -/
theorem readout_apply (y : FVec Ideal S512x512 .f32) (w : FVec Ideal S512x1 .f32) (c : FVec Ideal S1 .f32) (b : Fin 512) :
    readout y w c (ix1 b) = ∑ k, y (ix2 b k) * w (ix2 k 0) + c (ix1 0) := by
  pointwise [readout]

/-- The pooling of real rows. -/
theorem pool_real_rows (y : FVec Ideal S512x19x512 .f32) (w : FVec Ideal S512x1 .f32) (c : FVec Ideal S1 .f32)
    (Y : Fin 512 → Fin 19 → Fin 512 → ℝ) (W : Fin 512 → ℝ) (C : ℝ)
    (hy : ∀ b n k, y (ix3 b n k) = ((Y b n k : ℝ) : EReal)) (hw : ∀ k, w (ix2 k 0) = ((W k : ℝ) : EReal))
    (hc : c (ix1 0) = (C : EReal)) (b k : Fin 512) :
    pooled (poolExp (poolScore y w c)) y (ix2 b k) = ((pool W (Y b) k : ℝ) : EReal) := by
  have hq := poolScore_real y w c Y W C hy hw hc
  generalize poolScore y w c = q at *
  have hm := poolMax_real q _ hq
  choose N hN using hm
  rw [pooled_real _ y _ Y (poolExp_real q _ _ hq hN) hy]
  refine congrArg (fun r : ℝ => (r : EReal)) ?_
  exact pool_of_shifted W (Y b) k (∑ k, Y b (N b) k * W k) _ (fun n => by ring)

section
variable (x0 : FVec Ideal S512x128x19 .f32) (x1 : FVec Ideal S128x512 .f32) (x2 : FVec Ideal S512 .f32)
  (x3 : FVec Ideal S128x512 .f32) (x4 : FVec Ideal S512 .f32) (x5 : FVec Ideal S8x64 .f32) (x6 : FVec Ideal S512 .f32)
  (x7 : FVec Ideal S512x512 .f32) (x8 : FVec Ideal S512 .f32) (x9 : FVec Ideal S512x512 .f32) (x10 : FVec Ideal S512 .f32)
  (x11 : FVec Ideal S8x64 .f32) (x12 : FVec Ideal S512 .f32) (x13 : FVec Ideal S512x1 .f32) (x14 : FVec Ideal S1 .f32)
  (x15 : FVec Ideal S512x1 .f32) (x16 : FVec Ideal S1 .f32) (x17 : IVec S2x361 32)
  (X : Fin 512 → Fin 19 → Fin 128 → ℝ) (Wl1 Wr1 : Fin 128 → Fin 512 → ℝ) (att1 : Fin 8 → Fin 64 → ℝ)
  (Wl2 Wr2 : Fin 512 → Fin 512 → ℝ) (att2 : Fin 8 → Fin 64 → ℝ) (Wp : Fin 512 → ℝ) (Bp : ℝ)
  (e : Fin 361 ≃ Fin 19 × Fin 19)
  (h0 : ∀ b f n, x0 (ix3 b f n) = ((X b n f : ℝ) : EReal)) (h1 : ∀ f k, x1 (ix2 f k) = ((Wl1 f k : ℝ) : EReal))
  (h2 : ∀ k, x2 (ix1 k) = 0) (h3 : ∀ f k, x3 (ix2 f k) = ((Wr1 f k : ℝ) : EReal)) (h4 : ∀ k, x4 (ix1 k) = 0)
  (h5 : ∀ h o, x5 (ix2 h o) = ((att1 h o : ℝ) : EReal)) (h6 : ∀ k, x6 (ix1 k) = 0)
  (h7 : ∀ f k, x7 (ix2 f k) = ((Wl2 f k : ℝ) : EReal)) (h8 : ∀ k, x8 (ix1 k) = 0)
  (h9 : ∀ f k, x9 (ix2 f k) = ((Wr2 f k : ℝ) : EReal)) (h10 : ∀ k, x10 (ix1 k) = 0)
  (h11 : ∀ h o, x11 (ix2 h o) = ((att2 h o : ℝ) : EReal)) (h12 : ∀ k, x12 (ix1 k) = 0)
  (h13 : ∀ k, x13 (ix2 k 0) = ((Wp k : ℝ) : EReal)) (h14 : x14 (ix1 0) = (Bp : EReal))
  (hs : ∀ i, x17 (ix2 0 i) = BitVec.ofNat 32 (e i).1.val) (hd' : ∀ i, x17 (ix2 1 i) = BitVec.ofNat 32 (e i).2.val)

include hs in
/-- An edge's source. -/
theorem src_real (i : Fin 361) : Read.val_main_v1 (F := Ideal) x17 (ix1 i) = BitVec.ofNat 32 (e i).1.val := by
  unfold Read.val_main_v1 Read.val_main_v0
  pointwise []
  exact hs i

include hd' in
/-- An edge's target. -/
theorem dst_real (i : Fin 361) : Read.val_main_v3 (F := Ideal) x17 (ix1 i) = BitVec.ofNat 32 (e i).2.val := by
  unfold Read.val_main_v3 Read.val_main_v2
  pointwise []
  exact hd' i

include h0 h1 h2 h3 h4 h5 h6 hs hd' in
/-- The first layer's rows. -/
theorem layer1_real (b : Fin 512) (n : Fin 19) (k : Fin 512) :
    Read.val_main_v59 (F := Ideal) x0 x1 x2 x3 x4 x5 x6 x17 (ix3 b n k)
      = ((row1 Wl1 Wr1 att1 (X b) (X b n) k : ℝ) : EReal) := by
  rw [v59_eq]
  refine eluR_real _ _ _ _ _ ?_
  rw [joined_real _ _ h6, v54_eq, v9_eq, v14_eq,
    attend_real e _ _ (src_real x17 e hs) (dst_real x17 e hd') _ _ x5 _ _ att1
      (proj0_real x0 x1 x2 X Wl1 h0 h1 h2) (proj0_real x0 x3 x4 X Wr1 h0 h3 h4) h5, col_hd_ln]

include h0 h1 h2 h3 h4 h5 h6 h7 h8 h9 h10 h11 h12 hs hd' in
/-- The second layer's rows. -/
theorem layer2_real (b : Fin 512) (n : Fin 19) (k : Fin 512) :
    Read.val_main_v113 (F := Ideal) x0 x1 x2 x3 x4 x5 x6 x7 x8 x9 x10 x11 x12 x17 (ix3 b n k)
      = ((row2 Wl2 Wr2 att2 (fun j => row1 Wl1 Wr1 att1 (X b) (X b j)) (row1 Wl1 Wr1 att1 (X b) (X b n)) k : ℝ) : EReal) := by
  have hy := layer1_real x0 x1 x2 x3 x4 x5 x6 x17 X Wl1 Wr1 att1 e h0 h1 h2 h3 h4 h5 h6 hs hd'
  rw [v113_eq, joined_real _ _ h12, v109_eq, v64_eq, v69_eq]
  generalize Read.val_main_v59 (F := Ideal) x0 x1 x2 x3 x4 x5 x6 x17 = y at *
  rw [attend_real e _ _ (src_real x17 e hs) (dst_real x17 e hd') _ _ x11 _ _ att2
      (proj_real y x7 x8 (fun b n => row1 Wl1 Wr1 att1 (X b) (X b n)) Wl2 hy h7 h8)
      (proj_real y x9 x10 (fun b n => row1 Wl1 Wr1 att1 (X b) (X b n)) Wr2 hy h9 h10) h11, col_hd_ln]
  rfl

include h0 h1 h2 h3 h4 h5 h6 h7 h8 h9 h10 h11 h12 h13 h14 hs hd' in
/-- The reference's result. -/
theorem value_real (b : Fin 512) :
    Read.val_main_v136 (F := Ideal) x0 x1 x2 x3 x4 x5 x6 x7 x8 x9 x10 x11 x12 x13 x14 x15 x16 x17 (ix1 b)
      = ∑ k, ((pool Wp (fun n => row2 Wl2 Wr2 att2 (fun j => row1 Wl1 Wr1 att1 (X b) (X b j)) (row1 Wl1 Wr1 att1 (X b) (X b n))) k : ℝ) : EReal)
          * x15 (ix2 k 0) + x16 (ix1 0) := by
  have hy := layer2_real x0 x1 x2 x3 x4 x5 x6 x7 x8 x9 x10 x11 x12 x17 X Wl1 Wr1 att1 Wl2 Wr2 att2 e
    h0 h1 h2 h3 h4 h5 h6 h7 h8 h9 h10 h11 h12 hs hd'
  rw [v136_eq, readout_apply]
  generalize Read.val_main_v113 (F := Ideal) x0 x1 x2 x3 x4 x5 x6 x7 x8 x9 x10 x11 x12 x17 = y at *
  refine congrArg (· + _) (Finset.sum_congr rfl fun k _ => ?_)
  rw [pool_real_rows y x13 x14 (fun b n => row2 Wl2 Wr2 att2 (fun j => row1 Wl1 Wr1 att1 (X b) (X b j)) (row1 Wl1 Wr1 att1 (X b) (X b n)))
    Wp Bp hy h13 h14]

end

end Cert.Net.Ref

end
-- ==== Proof.Pre.lean ====
module

public import proofs.«01_k».proof.Proof.Gen.Pre_complete
public import Idealize.ShloMosaic.Lib.Pointwise
public import Idealize.ShloMosaic.Lib.ReduceAll

@[expose] public section

set_option maxRecDepth 16384

noncomputable section

/-! What the precondition says of the arguments. -/

namespace Cert.Net.Pre

open Idealize.ShloMosaic Cert.Pre_complete

/-- The zero-dimensional shape has one index. -/
instance : Subsingleton S_.Idx := ⟨fun a b => funext fun i => i.elim0⟩

/-- An extended real whose absolute value is below infinity is a real. -/
theorem real_of_abs (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have e : Ideal.ofBits .f32 0x7F800000#32 = (⊤ : EReal) := by simp [Ideal.ofBits, Ideal.ieee]
  have h' : BitVec.ofBool (decide (max x (-x) < Ideal.ofBits .f32 0x7F800000#32)) = 1#1 := h
  rw [e] at h'
  induction x with
  | bot => simp at h'
  | top => simp at h'
  | coe r => exact ⟨r, rfl⟩

/-- An extended real equal to the zero literal. -/
theorem zero_of_eq (x : EReal)
    (h : FloatOps.cmpf (F := Ideal) (φ := .f32) .oeq x (Ideal.ofBits .f32 0x00000000#32) = 1#1) : x = 0 := by
  have h' : BitVec.ofBool (decide (x = Ideal.ofBits .f32 0x00000000#32)) = 1#1 := h
  rw [Ideal.ofBits_zero_f32] at h'
  by_contra hx
  simp [hx] at h'

/-- Whether every element of an array is finite, as the precondition spells it. -/
def allFinite {s : Shape} {axes : List (Fin s.rank)} (x : FVec Ideal s .f32) (b : S_.BroadcastsInDim s ![])
    (r : s.ReducesTo axes S_) (u : 0 < S_.numel) : IVec S_ 1 :=
  Host.reduce IntOp.andi (cmpf (F := Ideal) .olt (Host.absf (F := Ideal) x)
    (broadcastInDim s ![] b (constant (F := Ideal) S_ .f32 0x7F800000#32))) (constantI S_ 1 1#1) r u

/-- Whether every element of an array is zero, as the precondition spells it. -/
def allZero {s : Shape} {axes : List (Fin s.rank)} (x : FVec Ideal s .f32) (b : S_.BroadcastsInDim s ![])
    (r : s.ReducesTo axes S_) (u : 0 < S_.numel) : IVec S_ 1 :=
  Host.reduce IntOp.andi (cmpf (F := Ideal) .oeq x
    (broadcastInDim s ![] b (constant (F := Ideal) S_ .f32 0x00000000#32))) (constantI S_ 1 1#1) r u

/-- A finite array has real elements. -/
theorem finite_of_all {s : Shape} {axes : List (Fin s.rank)} (x : FVec Ideal s .f32) (b : S_.BroadcastsInDim s ![])
    (r : s.ReducesTo axes S_) (u : 0 < S_.numel)
    (h : allFinite x b r u = fun _ => 1#1) :
    ∀ i, ∃ v : ℝ, x i = (v : EReal) := fun i =>
  real_of_abs (x i) (Host.reduce_andi_all _ _ r u ix0 (congrFun h ix0) i)

/-- An array of zeros. -/
theorem zero_of_all {s : Shape} {axes : List (Fin s.rank)} (x : FVec Ideal s .f32) (b : S_.BroadcastsInDim s ![])
    (r : s.ReducesTo axes S_) (u : 0 < S_.numel)
    (h : allZero x b r u = fun _ => 1#1) :
    ∀ i, x i = 0 := fun i =>
  zero_of_eq (x i) (Host.reduce_andi_all _ _ r u ix0 (congrFun h ix0) i)

/-- A disjunction that holds has a member that holds. -/
theorem exists_of_fold {ι : Type} (f : ι → BitVec 1) (t : Finset ι) (h : t.fold IntOp.ori 0#1 f = 1#1) :
    ∃ i, f i = 1#1 := by
  have o : ∀ a b : BitVec 1, IntOp.ori a b = 1#1 → a = 1#1 ∨ b = 1#1 := by decide
  classical
  induction t using Finset.induction_on with
  | empty => exact absurd h (by simp)
  | insert a t ha ih =>
    rw [Finset.fold_insert ha] at h
    exact (o _ _ h).elim (fun h => ⟨a, h⟩) ih

/-- The edges from each node and to each node, as the precondition spells them. -/
def ends (x : IVec S2x361 32) : IVec S361x19x19 1 :=
  andi
    (broadcastInDim S361x19x19 ![0, 1, 2] Facts.bcast_S361x19x1_S361x19x19_0_1_2
      (cmpi .eq
        (broadcastInDim S361x19x1 ![0, 1, 2] Facts.bcast_S361x1x1_S361x19x1_0_1_2 (broadcastInDim S361x1x1 ![0] Facts.bcast_S361_S361x1x1_0
          (shapeCast S361 (extractStridedSlice S1x361 ![0, 0] x Facts.slices_S2x361_S1x361_0_0) Facts.shapeCasts_S1x361_S361)))
        (broadcastInDim S361x19x1 ![0, 1, 2] Facts.bcast_S1x19x1_S361x19x1_0_1_2 (broadcastInDim S1x19x1 ![1] Facts.bcast_S19_S1x19x1_1 (iotaInDim S19 32 0)))))
    (broadcastInDim S361x19x19 ![0, 1, 2] Facts.bcast_S361x1x19_S361x19x19_0_1_2
      (cmpi .eq
        (broadcastInDim S361x1x19 ![0, 1, 2] Facts.bcast_S361x1x1_S361x1x19_0_1_2 (broadcastInDim S361x1x1 ![0] Facts.bcast_S361_S361x1x1_0
          (shapeCast S361 (extractStridedSlice S1x361 ![1, 0] x Facts.slices_S2x361_S1x361_1_0) Facts.shapeCasts_S1x361_S361)))
        (broadcastInDim S361x1x19 ![0, 1, 2] Facts.bcast_S1x1x19_S361x1x19_0_1_2 (broadcastInDim S1x1x19 ![2] Facts.bcast_S19_S1x1x19_2 (iotaInDim S19 32 0)))))

/-- Its element at an edge and a pair of nodes. -/
theorem ends_apply (x : IVec S2x361 32) (i : Fin 361) (a b : Fin 19) :
    ends x (ix3 i a b) = IntOp.andi (IntOp.cmpi .eq (x (ix2 0 i)) (BitVec.ofNat 32 a.val)) (IntOp.cmpi .eq (x (ix2 1 i)) (BitVec.ofNat 32 b.val)) := by
  pointwise [ends]

/-- Whether every pair of nodes is an edge, as the precondition spells it. -/
def allPairs (x : IVec S2x361 32) : IVec S_ 1 :=
  Host.reduce IntOp.andi (Host.reduce IntOp.ori (ends x) (constantI S_ 1 0#1) Facts.reducesTo_S361x19x19_S19x19_d0 Facts.h_S_)
    (constantI S_ 1 1#1) Facts.reducesTo_S19x19_S_d0_1 Facts.h_S_

/-- Every pair of nodes is an edge. -/
theorem edge_of_all (x : IVec S2x361 32) (h : allPairs x = fun _ => 1#1) (a b : Fin 19) :
    ∃ i, x (ix2 0 i) = BitVec.ofNat 32 a.val ∧ x (ix2 1 i) = BitVec.ofNat 32 b.val := by
  have k : ∀ u v : BitVec 1, IntOp.andi u v = 1#1 → u = 1#1 ∧ v = 1#1 := by decide
  have q : ∀ u v : BitVec 32, IntOp.cmpi .eq u v = 1#1 → u = v := fun u v h => by
    by_contra hx
    have h' : BitVec.ofBool (u == v) = 1#1 := h
    rw [beq_eq_false_iff_ne.mpr hx] at h'
    exact absurd h' (by decide)
  have h1 := Host.reduce_andi_all _ _ Facts.reducesTo_S19x19_S_d0_1 Facts.h_S_ ix0 (congrFun h ix0) (ix2 a b)
  have e := ends_apply x
  generalize ends x = y at *
  have h2 : (Finset.univ : Finset (Fin 361)).fold IntOp.ori 0#1 (fun i => y (ix3 i a b)) = 1#1 := by
    rw [← h1]
    symm
    pointwise []
  obtain ⟨i, hi⟩ := exists_of_fold _ _ h2
  rw [e] at hi
  obtain ⟨h3, h4⟩ := k _ _ hi
  exact ⟨i, q _ _ h3, q _ _ h4⟩

/-- The edges number the pairs of nodes. -/
theorem edges_equiv (x : IVec S2x361 32)
    (h : ∀ a b : Fin 19, ∃ i, x (ix2 0 i) = BitVec.ofNat 32 a.val ∧ x (ix2 1 i) = BitVec.ofNat 32 b.val) :
    ∃ e : Fin 361 ≃ Fin 19 × Fin 19, ∀ i, x (ix2 0 i) = BitVec.ofNat 32 (e i).1.val ∧ x (ix2 1 i) = BitVec.ofNat 32 (e i).2.val := by
  have inj : ∀ a b : Fin 19, BitVec.ofNat 32 a.val = BitVec.ofNat 32 b.val → a = b := by decide +kernel
  choose g hg using h
  have hi : Function.Injective (fun p : Fin 19 × Fin 19 => g p.1 p.2) := fun p r hp => by
    have hp' : g p.1 p.2 = g r.1 r.2 := hp
    refine Prod.ext (inj _ _ ?_) (inj _ _ ?_)
    · rw [← (hg p.1 p.2).1, hp', (hg r.1 r.2).1]
    · rw [← (hg p.1 p.2).2, hp', (hg r.1 r.2).2]
  have hb := (Fintype.bijective_iff_injective_and_card _).mpr ⟨hi, by simp⟩
  refine ⟨(Equiv.ofBijective _ hb).symm, fun i => ?_⟩
  have e := (Equiv.ofBijective _ hb).apply_symm_apply i
  generalize (Equiv.ofBijective _ hb).symm i = p at *
  have e' : g p.1 p.2 = i := e
  rw [← e']
  exact hg p.1 p.2

/-- The precondition's sixteen parts. -/
theorem fn_eq (a0 : FVec Ideal S512x128x19 .f32) (a1 : FVec Ideal S128x512 .f32) (a2 : FVec Ideal S512 .f32) (a3 : FVec Ideal S128x512 .f32) (a4 : FVec Ideal S512 .f32) (a5 : FVec Ideal S8x64 .f32) (a6 : FVec Ideal S512 .f32) (a7 : FVec Ideal S512x512 .f32) (a8 : FVec Ideal S512 .f32) (a9 : FVec Ideal S512x512 .f32) (a10 : FVec Ideal S512 .f32) (a11 : FVec Ideal S8x64 .f32) (a12 : FVec Ideal S512 .f32) (a13 : FVec Ideal S512x1 .f32) (a14 : FVec Ideal S1 .f32) (a15 : FVec Ideal S512x1 .f32) (a16 : FVec Ideal S1 .f32) (a17 : IVec S2x361 32) :
    fn (F := Ideal) a0 a1 a2 a3 a4 a5 a6 a7 a8 a9 a10 a11 a12 a13 a14 a15 a16 a17
      = (allFinite a0 Facts.bcast_S_S512x128x19 Facts.reducesTo_S512x128x19_S_d0_1_2 Facts.h_S_,
        allFinite a1 Facts.bcast_S_S128x512 Facts.reducesTo_S128x512_S_d0_1 Facts.h_S_,
        allFinite a3 Facts.bcast_S_S128x512 Facts.reducesTo_S128x512_S_d0_1 Facts.h_S_,
        allFinite a5 Facts.bcast_S_S8x64 Facts.reducesTo_S8x64_S_d0_1 Facts.h_S_,
        allFinite a7 Facts.bcast_S_S512x512 Facts.reducesTo_S512x512_S_d0_1 Facts.h_S_,
        allFinite a9 Facts.bcast_S_S512x512 Facts.reducesTo_S512x512_S_d0_1 Facts.h_S_,
        allFinite a11 Facts.bcast_S_S8x64 Facts.reducesTo_S8x64_S_d0_1 Facts.h_S_,
        allFinite a13 Facts.bcast_S_S512x1 Facts.reducesTo_S512x1_S_d0_1 Facts.h_S_,
        allFinite a14 Facts.bcast_S_S1 Facts.reducesTo_S1_S_d0 Facts.h_S_,
        allZero a2 Facts.bcast_S_S512 Facts.reducesTo_S512_S_d0 Facts.h_S_,
        allZero a4 Facts.bcast_S_S512 Facts.reducesTo_S512_S_d0 Facts.h_S_,
        allZero a6 Facts.bcast_S_S512 Facts.reducesTo_S512_S_d0 Facts.h_S_,
        allZero a8 Facts.bcast_S_S512 Facts.reducesTo_S512_S_d0 Facts.h_S_,
        allZero a10 Facts.bcast_S_S512 Facts.reducesTo_S512_S_d0 Facts.h_S_,
        allZero a12 Facts.bcast_S_S512 Facts.reducesTo_S512_S_d0 Facts.h_S_,
        allPairs a17) := rfl

/-- What the precondition gives: real elements, zero biases, and edges that number the pairs of nodes. -/
theorem facts_of_fn (a0 : FVec Ideal S512x128x19 .f32) (a1 : FVec Ideal S128x512 .f32) (a2 : FVec Ideal S512 .f32) (a3 : FVec Ideal S128x512 .f32) (a4 : FVec Ideal S512 .f32) (a5 : FVec Ideal S8x64 .f32) (a6 : FVec Ideal S512 .f32) (a7 : FVec Ideal S512x512 .f32) (a8 : FVec Ideal S512 .f32) (a9 : FVec Ideal S512x512 .f32) (a10 : FVec Ideal S512 .f32) (a11 : FVec Ideal S8x64 .f32) (a12 : FVec Ideal S512 .f32) (a13 : FVec Ideal S512x1 .f32) (a14 : FVec Ideal S1 .f32) (a15 : FVec Ideal S512x1 .f32) (a16 : FVec Ideal S1 .f32) (a17 : IVec S2x361 32)
    (h : (fn (F := Ideal) a0 a1 a2 a3 a4 a5 a6 a7 a8 a9 a10 a11 a12 a13 a14 a15 a16 a17).1 = (fun _ => 1#1)
      ∧ (fn (F := Ideal) a0 a1 a2 a3 a4 a5 a6 a7 a8 a9 a10 a11 a12 a13 a14 a15 a16 a17).2.1 = (fun _ => 1#1)
      ∧ (fn (F := Ideal) a0 a1 a2 a3 a4 a5 a6 a7 a8 a9 a10 a11 a12 a13 a14 a15 a16 a17).2.2.1 = (fun _ => 1#1)
      ∧ (fn (F := Ideal) a0 a1 a2 a3 a4 a5 a6 a7 a8 a9 a10 a11 a12 a13 a14 a15 a16 a17).2.2.2.1 = (fun _ => 1#1)
      ∧ (fn (F := Ideal) a0 a1 a2 a3 a4 a5 a6 a7 a8 a9 a10 a11 a12 a13 a14 a15 a16 a17).2.2.2.2.1 = (fun _ => 1#1)
      ∧ (fn (F := Ideal) a0 a1 a2 a3 a4 a5 a6 a7 a8 a9 a10 a11 a12 a13 a14 a15 a16 a17).2.2.2.2.2.1 = (fun _ => 1#1)
      ∧ (fn (F := Ideal) a0 a1 a2 a3 a4 a5 a6 a7 a8 a9 a10 a11 a12 a13 a14 a15 a16 a17).2.2.2.2.2.2.1 = (fun _ => 1#1)
      ∧ (fn (F := Ideal) a0 a1 a2 a3 a4 a5 a6 a7 a8 a9 a10 a11 a12 a13 a14 a15 a16 a17).2.2.2.2.2.2.2.1 = (fun _ => 1#1)
      ∧ (fn (F := Ideal) a0 a1 a2 a3 a4 a5 a6 a7 a8 a9 a10 a11 a12 a13 a14 a15 a16 a17).2.2.2.2.2.2.2.2.1 = (fun _ => 1#1)
      ∧ (fn (F := Ideal) a0 a1 a2 a3 a4 a5 a6 a7 a8 a9 a10 a11 a12 a13 a14 a15 a16 a17).2.2.2.2.2.2.2.2.2.1 = (fun _ => 1#1)
      ∧ (fn (F := Ideal) a0 a1 a2 a3 a4 a5 a6 a7 a8 a9 a10 a11 a12 a13 a14 a15 a16 a17).2.2.2.2.2.2.2.2.2.2.1 = (fun _ => 1#1)
      ∧ (fn (F := Ideal) a0 a1 a2 a3 a4 a5 a6 a7 a8 a9 a10 a11 a12 a13 a14 a15 a16 a17).2.2.2.2.2.2.2.2.2.2.2.1 = (fun _ => 1#1)
      ∧ (fn (F := Ideal) a0 a1 a2 a3 a4 a5 a6 a7 a8 a9 a10 a11 a12 a13 a14 a15 a16 a17).2.2.2.2.2.2.2.2.2.2.2.2.1 = (fun _ => 1#1)
      ∧ (fn (F := Ideal) a0 a1 a2 a3 a4 a5 a6 a7 a8 a9 a10 a11 a12 a13 a14 a15 a16 a17).2.2.2.2.2.2.2.2.2.2.2.2.2.1 = (fun _ => 1#1)
      ∧ (fn (F := Ideal) a0 a1 a2 a3 a4 a5 a6 a7 a8 a9 a10 a11 a12 a13 a14 a15 a16 a17).2.2.2.2.2.2.2.2.2.2.2.2.2.2.1 = (fun _ => 1#1)
      ∧ (fn (F := Ideal) a0 a1 a2 a3 a4 a5 a6 a7 a8 a9 a10 a11 a12 a13 a14 a15 a16 a17).2.2.2.2.2.2.2.2.2.2.2.2.2.2.2 = (fun _ => 1#1)) :
    (∀ i, ∃ v : ℝ, a0 i = (v : EReal))
    ∧ (∀ i, ∃ v : ℝ, a1 i = (v : EReal))
    ∧ (∀ i, ∃ v : ℝ, a3 i = (v : EReal))
    ∧ (∀ i, ∃ v : ℝ, a5 i = (v : EReal))
    ∧ (∀ i, ∃ v : ℝ, a7 i = (v : EReal))
    ∧ (∀ i, ∃ v : ℝ, a9 i = (v : EReal))
    ∧ (∀ i, ∃ v : ℝ, a11 i = (v : EReal))
    ∧ (∀ i, ∃ v : ℝ, a13 i = (v : EReal))
    ∧ (∀ i, ∃ v : ℝ, a14 i = (v : EReal))
    ∧ (∀ i, a2 i = 0)
    ∧ (∀ i, a4 i = 0)
    ∧ (∀ i, a6 i = 0)
    ∧ (∀ i, a8 i = 0)
    ∧ (∀ i, a10 i = 0)
    ∧ (∀ i, a12 i = 0)
    ∧ ∃ e : Fin 361 ≃ Fin 19 × Fin 19, ∀ i, a17 (ix2 0 i) = BitVec.ofNat 32 (e i).1.val ∧ a17 (ix2 1 i) = BitVec.ofNat 32 (e i).2.val := by
  rw [fn_eq] at h
  dsimp only at h
  obtain ⟨p0, p1, p2, p3, p4, p5, p6, p7, p8, p9, p10, p11, p12, p13, p14, p15⟩ := h
  exact ⟨finite_of_all _ _ _ _ p0, finite_of_all _ _ _ _ p1, finite_of_all _ _ _ _ p2, finite_of_all _ _ _ _ p3, finite_of_all _ _ _ _ p4, finite_of_all _ _ _ _ p5, finite_of_all _ _ _ _ p6, finite_of_all _ _ _ _ p7, finite_of_all _ _ _ _ p8, zero_of_all _ _ _ _ p9, zero_of_all _ _ _ _ p10, zero_of_all _ _ _ _ p11, zero_of_all _ _ _ _ p12, zero_of_all _ _ _ _ p13, zero_of_all _ _ _ _ p14,
    edges_equiv a17 (edge_of_all a17 p15)⟩

end Cert.Net.Pre

end
-- ==== Proof.Algebraic.lean ====
module

public import proofs.«01_k».proof.Defs
public import proofs.«01_k».proof.Proof.KVal
public import proofs.«01_k».proof.Proof.RefNet
public import proofs.«01_k».proof.Proof.Pre
public import proofs.«01_k».proof.Proof.Gen.ReferenceIdeal.Run

@[expose] public section

set_option maxRecDepth 16384

noncomputable section

/-! The kernel and the reference end with the same result. -/

namespace Cert.Net

open Idealize.ShloMosaic Idealize.SL.Sem Cert.KernelIdeal Cert.KernelIdeal.Gen

/-- Under the precondition the kernel's result buffer holds the reference's value of the same arguments. -/
theorem agree (m : (ℓ : Loc nD τ sig) → Buf (Elt Ideal) ℓ) (h : Cert.Pre_KernelIdeal_complete m) (c : Dev nD) :
    Pipeline.afterTail₀ cfgs (dats m) 0 (V0 m) [hostOps1] c main_v33
      = Cert.ReferenceIdeal.Read.val_main_v136 (F := Ideal) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17)) := by
  obtain ⟨f0, f1, f3, f5, f7, f9, f11, f13, f14, z2, z4, z6, z8, z10, z12, e, he⟩ := Pre.facts_of_fn _ _ _ _ _ _ _ _ _ _ _ _ _ _ _ _ _ _ (h c)
  choose v0 hv0 using f0
  choose v1 hv1 using f1
  choose v3 hv3 using f3
  choose v5 hv5 using f5
  choose v7 hv7 using f7
  choose v9 hv9 using f9
  choose v11 hv11 using f11
  choose v13 hv13 using f13
  choose v14 hv14 using f14
  have ho := arr_out m c (fun b n f => v0 (ix3 b f n)) (fun f k => v1 (ix2 f k)) (fun f k => v3 (ix2 f k)) (fun h o => v5 (ix2 h o))
    (fun f k => v7 (ix2 f k)) (fun f k => v9 (ix2 f k)) (fun h o => v11 (ix2 h o)) (fun k => v13 (ix2 k 0))
    (fun b f n => hv0 _) (fun f k => hv1 _) (fun f k => hv3 _) (fun h o => hv5 _) (fun f k => hv7 _) (fun f k => hv9 _)
    (fun h o => hv11 _) (fun k => hv13 _)
  have hr := Ref.value_real (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (fun b n f => v0 (ix3 b f n)) (fun f k => v1 (ix2 f k)) (fun f k => v3 (ix2 f k)) (fun h o => v5 (ix2 h o))
    (fun f k => v7 (ix2 f k)) (fun f k => v9 (ix2 f k)) (fun h o => v11 (ix2 h o)) (fun k => v13 (ix2 k 0)) (v14 (ix1 0)) e
    (fun b f n => hv0 _) (fun f k => hv1 _) (fun k => z2 _) (fun f k => hv3 _) (fun k => z4 _) (fun h o => hv5 _) (fun k => z6 _)
    (fun f k => hv7 _) (fun k => z8 _) (fun f k => hv9 _) (fun k => z10 _) (fun h o => hv11 _) (fun k => z12 _)
    (fun k => hv13 _) (hv14 _) (fun i => (he i).1) (fun i => (he i).2)
  have key : ∀ b : Fin 512, Pipeline.afterTail₀ cfgs (dats m) 0 (V0 m) [hostOps1] c main_v33 (ix1 b) = _ := fun b => (tail_out m c _ ho b).trans (hr b).symm
  funext y
  obtain ⟨b, rfl⟩ : ∃ b : Fin 512, y = ix1 b := ⟨y 0, by
    funext a
    match a with
    | ⟨0, _⟩ => rfl⟩
  exact key b

/-- From every memory that meets the precondition the two programs run to the end, leave their arguments unchanged and end
    with the same result. -/
theorem algebraic : Cert.algebraic_KernelIdeal_ReferenceIdeal_pre_complete := fun m g m' g' hpre hin => by
  refine ⟨fun c => Pipeline.afterTail₀ cfgs (dats m) 0 (V0 m) [hostOps1] c main_v33, ?_, ?_⟩
  · refine (θ_run defs _ _).mono (fun _ h c => ⟨(h c).2 main_v33 (Pipeline.mem_restRefs_of main_v33 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).1 9).trans (((dats m 0 c).arrAt_in 9 rfl _).trans ((A_eq m c 9).trans (V_main_arg13 m c))),
      ((h c).2 main_arg14 (Pipeline.mem_restRefs_of main_arg14 (by decide) (by decide))).trans (W_main_arg14 m (dats m) c),
      ((h c).1 10).trans (((dats m 0 c).arrAt_in 10 rfl _).trans ((A_eq m c 10).trans (V_main_arg15 m c))),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩) (run_main m g)
  · refine (θ_run Cert.ReferenceIdeal.defs _ _).mono (fun _ h c => ⟨?_, (h c).2⟩) (Cert.ReferenceIdeal.Value.run m' g')
    refine (h c).1.trans ((Cert.ReferenceIdeal.Read.val_main_v136_eq (fun b => m' (c, b))).trans
      (Eq.trans ?_ (agree m hpre c).symm))
    obtain ⟨e0, e1, e2, e3, e4, e5, e6, e7, e8, e9, e10, e11, e12, e13, e14, e15, e16, e17⟩ := hin c
    rw [← e0, ← e1, ← e2, ← e3, ← e4, ← e5, ← e6, ← e7, ← e8, ← e9, ← e10, ← e11, ← e12, ← e13, ← e14, ← e15, ← e16, ← e17]

end Cert.Net

end
-- ==== Proof.lean ====
module

public import proofs.«01_k».proof.Defs
public import proofs.«01_k».proof.Proof.Frames
public import proofs.«01_k».proof.Proof.Algebraic

@[expose] public section

noncomputable section

namespace Cert.Proof

/-- The certificate's claim: the three programs run and leave their arguments, the named constants stand for the values
    that the table gives, and under the precondition the kernel's result is the reference's. -/
theorem claim : Cert.Claim :=
  ⟨Cert.Kernel.Gen.facts, Cert.KernelIdeal.Gen.facts, Cert.ReferenceIdeal.Gen.facts, Cert.Pre_complete.Gen.facts,
    frame_kernel, frame_kernelIdeal, fun m g _ => frame_kernelIdeal m g trivial, frame_referenceIdeal,
    fun m g _ => frame_referenceIdeal m g trivial, preserves, Cert.Net.algebraic⟩

end Cert.Proof

end
